-- ==== Defs.lean ====
def Pre_Kernel (m : (ℓ : Loc Cert.Kernel.nD Cert.Kernel.τ Cert.Kernel.sig) → Buf (Elt Bits) ℓ) : Prop :=
  True

def Pre_Kernel_no_tie [hPre_no_tie : Cert.Pre_no_tie.Facts] (m : (ℓ : Loc Cert.Kernel.nD Cert.Kernel.τ Cert.Kernel.sig) → Buf (Elt Bits) ℓ) : Prop :=
  ∀ c : Dev Cert.Kernel.nD,
    (Cert.Pre_no_tie.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Kernel_pre_no_tie [hKernel : Cert.Kernel.Facts] [hPre_no_tie : Cert.Pre_no_tie.Facts] : Prop :=
  ∀ (m : (ℓ : Loc Cert.Kernel.nD Cert.Kernel.τ Cert.Kernel.sig) → Buf (Elt Bits) ℓ) (g : Dev Cert.Kernel.nD → PrngReg), Pre_Kernel_no_tie m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v17)) (v3 : (c : Dev Cert.KernelIdeal.nD) → Buf (Elt Ideal) ((c.tc : Thread Cert.KernelIdeal.nD Cert.KernelIdeal.τ).loc Cert.KernelIdeal.main_v13_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_v13_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_v27) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_Kernel_pre_no_tie (hKernel := hKernel) (hPre_no_tie := hPre_no_tie)
    ∧ quiescent_KernelIdeal (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal (hKernelIdeal := hKernelIdeal) (hReferenceIdeal := hReferenceIdeal) (hPre_no_tie := hPre_no_tie)
-- ==== Pre_no_tie.lean ====
abbrev S16x64x32x32 : Shape := ⟨4, ![16, 64, 32, 32]⟩
abbrev S1024x64 : Shape := ⟨2, ![1024, 64]⟩
abbrev S1024 : Shape := ⟨1, ![1024]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1024x1 : Shape := ⟨2, ![1024, 1]⟩
abbrev S1x1024 : Shape := ⟨2, ![1, 1024]⟩
abbrev S16384x1024 : Shape := ⟨2, ![16384, 1024]⟩
abbrev S64x1024 : Shape := ⟨2, ![64, 1024]⟩

class Facts : Prop where
  transposes_S16x64x32x32_S16x32x32x64_0_2_3_1 : S16x64x32x32.Transposes [0, 2, 3, 1] S16x32x32x64
  shapeCasts_S16x32x32x64_S16384x64 : S16x32x32x64.ShapeCasts S16384x64
  reducesTo_S16384x64_S16384_d1 : S16384x64.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x64_0_1 : S16384x1.BroadcastsInDim S16384x64 (![0, 1] : Fin 2 → Fin S16384x64.rank)
  reducesTo_S1024x64_S1024_d1 : S1024x64.ReducesTo [1] S1024
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x64_0_1 : S1024x1.BroadcastsInDim S1024x64 (![0, 1] : Fin 2 → Fin S1024x64.rank)
  bcast_S1024_S1x1024_1 : S1024.BroadcastsInDim S1x1024 (![1] : Fin 1 → Fin S1x1024.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  transposes_S1024x64_S64x1024_1_0 : S1024x64.Transposes [1, 0] S64x1024
  bcast_S_S16384x1024 : S_.BroadcastsInDim S16384x1024 (![] : Fin 0 → Fin S16384x1024.rank)
  reducesTo_S16384x1024_S16384_d1 : S16384x1024.ReducesTo [1] S16384
  natLt_1_32 : 1 < 32
  bcast_S_S16384 : S_.BroadcastsInDim S16384 (![] : Fin 0 → Fin S16384.rank)
  dot_S16384x64_S64x1024_S16384x1024_1_0_0_1_n_n_wf : DotDims.WF S16384x64 S64x1024 S16384x1024 [1] [0] [0] [1] [] []

variable [Facts]

def dot_S16384x64_S64x1024_S16384x1024_1_0_0_1_n_n : DotDims S16384x64 S64x1024 S16384x1024 where
  lhsContracting := [1]
  rhsContracting := [0]
  lhsNonContracting := [0]
  rhsNonContracting := [1]
  lhsBatch := []
  rhsBatch := []
  wf := dot_S16384x64_S64x1024_S16384x1024_1_0_0_1_n_n_wf
def fn_part2 {F : FTy → Type} [FloatOps F] (main_v37 : IVec S16384 32) (main_c_7 : IVec S_ 32) : IVec S16384 1 :=
  let main_v38 : IVec S16384 32 := broadcastInDim S16384 ![] bcast_S_S16384 main_c_7
  let main_v39 : IVec S16384 1 := cmpi .eq main_v37 main_v38
  main_v39

def fn_part1 {F : FTy → Type} [FloatOps F] (main_v9 : FVec F S16384x64 .f32) (main_v17 : FVec F S1024x64 .f32) (main_v18 : FVec F S16384x64 .f32) (main_cst_3 : FVec F S_ .f32) : IVec S16384 1 :=
  let main_v19 : FVec F S16384 .f32 := (fun x v => Host.reduceAdd x v reducesTo_S16384x64_S16384_d1 h_S_) main_v18 main_cst_3
  let main_v20 : FVec F S16384x1 .f32 := broadcastInDim S16384x1 ![0] bcast_S16384_S16384x1_0 main_v19
  let main_v21 : FVec F S1024x64 .f32 := mulf main_v17 main_v17
  let main_cst_4 : FVec F S_ .f32 := constant S_ .f32 0x00000000#32
  let main_v22 : FVec F S1024 .f32 := (fun x v => Host.reduceAdd x v reducesTo_S1024x64_S1024_d1 h_S_) main_v21 main_cst_4
  let main_v23 : FVec F S1x1024 .f32 := broadcastInDim S1x1024 ![1] bcast_S1024_S1x1024_1 main_v22
  let main_v24 : FVec F S16384x1024 .f32 := broadcastInDim S16384x1024 ![0, 1] bcast_S16384x1_S16384x1024_0_1 main_v20
  let main_v25 : FVec F S16384x1024 .f32 := broadcastInDim S16384x1024 ![0, 1] bcast_S1x1024_S16384x1024_0_1 main_v23
  let main_v26 : FVec F S16384x1024 .f32 := addf main_v24 main_v25
  let main_v27 : FVec F S64x1024 .f32 := (transpose S64x1024 [1, 0] · transposes_S1024x64_S64x1024_1_0) main_v17
  let main_v28 : FVec F S16384x1024 .f32 := (fun l r => Host.dotGeneral dot_S16384x64_S64x1024_S16384x1024_1_0_0_1_n_n none l r) main_v9 main_v27
  let main_cst_5 : FVec F S_ .f32 := constant S_ .f32 0x40000000#32
  let main_v29 : FVec F S16384x1024 .f32 := broadcastInDim S16384x1024 ![] bcast_S_S16384x1024 main_cst_5
  let main_v30 : FVec F S16384x1024 .f32 := mulf main_v29 main_v28
  let main_v31 : FVec F S16384x1024 .f32 := subf main_v26 main_v30
  let main_cst_6 : FVec F S_ .f32 := constant S_ .f32 0x7F800000#32
  let main_v32 : FVec F S16384 .f32 := (fun x v => Host.reduce FloatOps.minimumf x v reducesTo_S16384x1024_S16384_d1 h_S_) main_v31 main_cst_6
  let main_v33 : FVec F S16384x1 .f32 := broadcastInDim S16384x1 ![0] bcast_S16384_S16384x1_0 main_v32
  let main_v34 : FVec F S16384x1024 .f32 := broadcastInDim S16384x1024 ![0, 1] bcast_S16384x1_S16384x1024_0_1 main_v33
  let main_v35 : IVec S16384x1024 1 := cmpf .oeq main_v31 main_v34
  let main_v36 : IVec S16384x1024 32 := (extui 32 · natLt_1_32) main_v35
  let main_c : IVec S_ 32 := constantI S_ 32 0#32
  let main_v37 : IVec S16384 32 := (fun x v => Host.reduce IntOp.addi x v reducesTo_S16384x1024_S16384_d1 h_S_) main_v36 main_c
  let main_c_7 : IVec S_ 32 := constantI S_ 32 1#32
  fn_part2 (F := F) main_v37 main_c_7

def fn {F : FTy → Type} [FloatOps F] (main_arg0 : FVec F S16x64x32x32 .f32) (main_arg1 : FVec F S1024x64 .f32) (main_arg2 : FVec F S1024x64 .f32) (main_arg3 : FVec F S1024 .f32) : IVec S16384 1 :=
  let main_v0 : FVec F S16x32x32x64 .f32 := (transpose S16x32x32x64 [0, 2, 3, 1] · transposes_S16x64x32x32_S16x32x32x64_0_2_3_1) main_arg0
  let main_v1 : FVec F S16384x64 .f32 := shapeCast S16384x64 main_v0 shapeCasts_S16x32x32x64_S16384x64
  let main_v2 : FVec F S16384x64 .f32 := mulf main_v1 main_v1
  let main_cst : FVec F S_ .f32 := constant S_ .f32 0x00000000#32
  let main_v3 : FVec F S16384 .f32 := (fun x v => Host.reduceAdd x v reducesTo_S16384x64_S16384_d1 h_S_) main_v2 main_cst
  let main_v4 : FVec F S16384x1 .f32 := broadcastInDim S16384x1 ![0] bcast_S16384_S16384x1_0 main_v3
  let main_v5 : FVec F S16384x1 .f32 := Host.sqrt main_v4
  let main_cst_0 : FVec F S_ .f32 := constant S_ .f32 0x2B8CBCCC#32
  let main_v6 : FVec F S16384x1 .f32 := broadcastInDim S16384x1 ![] bcast_S_S16384x1 main_cst_0
  let main_v7 : FVec F S16384x1 .f32 := maximumf main_v5 main_v6
  let main_v8 : FVec F S16384x64 .f32 := broadcastInDim S16384x64 ![0, 1] bcast_S16384x1_S16384x64_0_1 main_v7
  let main_v9 : FVec F S16384x64 .f32 := Host.divf main_v1 main_v8
  let main_v10 : FVec F S1024x64 .f32 := mulf main_arg1 main_arg1
  let main_cst_1 : FVec F S_ .f32 := constant S_ .f32 0x00000000#32
  let main_v11 : FVec F S1024 .f32 := (fun x v => Host.reduceAdd x v reducesTo_S1024x64_S1024_d1 h_S_) main_v10 main_cst_1
  let main_v12 : FVec F S1024x1 .f32 := broadcastInDim S1024x1 ![0] bcast_S1024_S1024x1_0 main_v11
  let main_v13 : FVec F S1024x1 .f32 := Host.sqrt main_v12
  let main_cst_2 : FVec F S_ .f32 := constant S_ .f32 0x2B8CBCCC#32
  let main_v14 : FVec F S1024x1 .f32 := broadcastInDim S1024x1 ![] bcast_S_S1024x1 main_cst_2
  let main_v15 : FVec F S1024x1 .f32 := maximumf main_v13 main_v14
  let main_v16 : FVec F S1024x64 .f32 := broadcastInDim S1024x64 ![0, 1] bcast_S1024x1_S1024x64_0_1 main_v15
  let main_v17 : FVec F S1024x64 .f32 := Host.divf main_arg1 main_v16
  let main_v18 : FVec F S16384x64 .f32 := mulf main_v9 main_v9
  let main_cst_3 : FVec F S_ .f32 := constant S_ .f32 0x00000000#32
  fn_part1 (F := F) main_v9 main_v17 main_v18 main_cst_3
-- ==== Kernel.lean ====
abbrev S16x64x32x32 : Shape := ⟨4, ![16, 64, 32, 32]⟩
abbrev S1024x64 : Shape := ⟨2, ![1024, 64]⟩
abbrev S1024 : Shape := ⟨1, ![1024]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S16x1024x64 : Shape := ⟨3, ![16, 1024, 64]⟩
abbrev S16x1024x1 : Shape := ⟨3, ![16, 1024, 1]⟩
abbrev S16384x1024 : Shape := ⟨2, ![16384, 1024]⟩
abbrev S1x1 : Shape := ⟨2, ![1, 1]⟩
abbrev S1x1024x64 : Shape := ⟨3, ![1, 1024, 64]⟩
abbrev S1x1024x1 : Shape := ⟨3, ![1, 1024, 1]⟩
abbrev S1024x1024 : Shape := ⟨2, ![1024, 1024]⟩
abbrev S1x1024 : Shape := ⟨2, ![1, 1024]⟩
abbrev S64x1024 : Shape := ⟨2, ![64, 1024]⟩
abbrev S1024x1 : Shape := ⟨2, ![1024, 1]⟩
abbrev S1024x8 : Shape := ⟨2, ![1024, 8]⟩
abbrev S1024x4 : Shape := ⟨2, ![1024, 4]⟩
abbrev S1024x2 : Shape := ⟨2, ![1024, 2]⟩
abbrev S1 : Shape := ⟨1, ![1]⟩
abbrev S1x1x1 : Shape := ⟨3, ![1, 1, 1]⟩
abbrev S1x1x1024 : Shape := ⟨3, ![1, 1, 1024]⟩
abbrev S16x64x1024 : Shape := ⟨3, ![16, 64, 1024]⟩

abbrev nBuf : Space → Nat
  | .hbm => 31
  | .vmem => 14
  | .smem => 3
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S1024x64, .f32⟩
  | .hbm, ⟨3, _⟩ => ⟨S1024, .f32⟩
  | .hbm, ⟨4, _⟩ => ⟨S16x32x32x64, .f32⟩
  | .hbm, ⟨5, _⟩ => ⟨S16384x64, .f32⟩
  | .hbm, ⟨6, _⟩ => ⟨S16384x64, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S16x1024x64, .f32⟩
  | .hbm, ⟨21, _⟩ => ⟨S16x1024x64, .f32⟩
  | .hbm, ⟨22, _⟩ => ⟨S16x1024x1, .f32⟩
  | .hbm, ⟨23, _⟩ => ⟨S16384x1024, .f32⟩
  | .hbm, ⟨24, _⟩ => ⟨S16x1024x64, .f32⟩
  | .hbm, ⟨25, _⟩ => ⟨S1x1, .f32⟩
  | .hbm, ⟨26, _⟩ => ⟨S1x1, .f32⟩
  | .hbm, ⟨27, _⟩ => ⟨S16x64x1024, .f32⟩
  | .hbm, ⟨28, _⟩ => ⟨S16x64x32x32, .f32⟩
  | .hbm, ⟨29, _⟩ => ⟨S_, .f32⟩
  | .hbm, ⟨30, _⟩ => ⟨S_, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x1, .f32⟩
  | .local _ .vmem, ⟨5, _⟩ => ⟨S1x1024x1, .f32⟩
  | .local _ .vmem, ⟨6, _⟩ => ⟨S1024x64, .f32⟩
  | .local _ .vmem, ⟨7, _⟩ => ⟨S1024x1024, .f32⟩
  | .local _ .vmem, ⟨8, _⟩ => ⟨S1024x1024, .f32⟩
  | .local _ .vmem, ⟨9, _⟩ => ⟨S1x1024x64, .f32⟩
  | .local _ .vmem, ⟨10, _⟩ => ⟨S1x1024x64, .f32⟩
  | .local _ .vmem, ⟨11, _⟩ => ⟨S1x1024, .f32⟩
  | .local _ .vmem, ⟨12, _⟩ => ⟨S64x1024, .f32⟩
  | .local _ .vmem, ⟨13, _⟩ => ⟨S1x1024, .f32⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev main_v13_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch2 : Ref sig .tc := ⟨.vmem, 12, rfl⟩
abbrev cc0_scratch3 : Ref sig .tc := ⟨.vmem, 13, rfl⟩
abbrev cc0_stg6_0 : Ref sig .tc := ⟨.smem, 0, rfl⟩
abbrev cc0_stg7_0 : Ref sig .tc := ⟨.smem, 1, rfl⟩
abbrev cc0_scratch1 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def k0_cond4 (i : grid0.Coords) : BitVec 1 :=
  let arg0 : BitVec 32 := BitVec.ofNat 32 (i 0).val
  let c15_i32 : BitVec 32 := 15#32
  let v45 : BitVec 1 := Scalar.cmpi .eq arg0 c15_i32
  let v46 : BitVec 32 := Scalar.extui v45
  let c0_i32_27 : BitVec 32 := 0#32
  let v47 : BitVec 1 := Scalar.cmpi .ne v46 c0_i32_27
  v47

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .smem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S16x64x32x32 : Shape := ⟨4, ![16, 64, 32, 32]⟩
abbrev S1024x64 : Shape := ⟨2, ![1024, 64]⟩
abbrev S1024 : Shape := ⟨1, ![1024]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1024x1 : Shape := ⟨2, ![1024, 1]⟩
abbrev S1x1024 : Shape := ⟨2, ![1, 1024]⟩
abbrev S16384x1024 : Shape := ⟨2, ![16384, 1024]⟩
abbrev S64x1024 : Shape := ⟨2, ![64, 1024]⟩

abbrev nBuf : Space → Nat
  | .hbm => 81
  | .vmem => 0
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S1024x64, .f32⟩
  | .hbm, ⟨3, _⟩ => ⟨S1024, .f32⟩
  | .hbm, ⟨4, _⟩ => ⟨S16x32x32x64, .f32⟩
  | .hbm, ⟨5, _⟩ => ⟨S16384x64, .f32⟩
  | .hbm, ⟨6, _⟩ => ⟨S16384x64, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x64, .f32⟩
  | .hbm, ⟨15, _⟩ => ⟨S16384x64, .f32⟩
  | .hbm, ⟨16, _⟩ => ⟨S1024x64, .f32⟩
  | .hbm, ⟨17, _⟩ => ⟨S_, .f32⟩
  | .hbm, ⟨18, _⟩ => ⟨S1024, .f32⟩
  | .hbm, ⟨19, _⟩ => ⟨S1024x1, .f32⟩
  | .hbm, ⟨20, _⟩ => ⟨S1024x1, .f32⟩
  | .hbm, ⟨21, _⟩ => ⟨S_, .f32⟩
  | .hbm, ⟨22, _⟩ => ⟨S1024x1, .f32⟩
  | .hbm, ⟨23, _⟩ => ⟨S1024x1, .f32⟩
  | .hbm, ⟨24, _⟩ => ⟨S1024x64, .f32⟩
  | .hbm, ⟨25, _⟩ => ⟨S1024x64, .f32⟩
  | .hbm, ⟨26, _⟩ => ⟨S16384x64, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S1024x64, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S64x1024, .f32⟩
  | .hbm, ⟨38, _⟩ => ⟨S16384x1024, .f32⟩
  | .hbm, ⟨39, _⟩ => ⟨S_, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .i32⟩
  | .hbm, ⟨44, _⟩ => ⟨S_, .f32⟩
  | .hbm, ⟨45, _⟩ => ⟨S_, .i32⟩
  | .hbm, ⟨46, _⟩ => ⟨S16384, .f32⟩
  | .hbm, ⟨47, _⟩ => ⟨S16384, .i32⟩
  | .hbm, ⟨48, _⟩ => ⟨S16384x1, .i32⟩
  | .hbm, ⟨49, _⟩ => ⟨S1x1024, .i32⟩
  | .hbm, ⟨50, _⟩ => ⟨S16384x1024, .i32⟩
  | .hbm, ⟨51, _⟩ => ⟨S16384x1024, .i32⟩
  | .hbm, ⟨52, _⟩ => ⟨S16384x1024, .i1⟩
  | .hbm, ⟨53, _⟩ => ⟨S16384x1024, .f32⟩
  | .hbm, ⟨54, _⟩ => ⟨S16384x64, .f32⟩
  | .hbm, ⟨55, _⟩ => ⟨S16x32x32x64, .f32⟩
  | .hbm, ⟨56, _⟩ => ⟨S16x32x32x64, .f32⟩
  | .hbm, ⟨57, _⟩ => ⟨S16x32x32x64, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S16x32x32x64, .f32⟩
  | .hbm, ⟨65, _⟩ => ⟨S16x32x32x64, .f32⟩
  | .hbm, ⟨66, _⟩ => ⟨S16x64x32x32, .f32⟩
  | .hbm, ⟨67, _⟩ => ⟨S_, .f32⟩
  | .hbm, ⟨68, _⟩ => ⟨S1024, .f32⟩
  | .hbm, ⟨69, _⟩ => ⟨S_, .f32⟩
  | .hbm, ⟨70, _⟩ => ⟨S1024, .f32⟩
  | .hbm, ⟨71, _⟩ => ⟨S1024, .f32⟩
  | .hbm, ⟨72, _⟩ => ⟨S_, .f32⟩
  | .hbm, ⟨73, _⟩ => ⟨S1024, .f32⟩
  | .hbm, ⟨74, _⟩ => ⟨S1024, .f32⟩
  | .hbm, ⟨75, _⟩ => ⟨S1024, .f32⟩
  | .hbm, ⟨76, _⟩ => ⟨S1024, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call1_v0 : Ref sig .tc := ⟨.hbm, 16, rfl⟩
abbrev main_call1_cst : Ref sig .tc := ⟨.hbm, 17, rfl⟩
abbrev main_call1_v1 : Ref sig .tc := ⟨.hbm, 18, rfl⟩
abbrev main_call1_v2 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call2_v0 : Ref sig .tc := ⟨.hbm, 43, rfl⟩
abbrev main_call2_cst : Ref sig .tc := ⟨.hbm, 44, rfl⟩
abbrev main_call2_c : Ref sig .tc := ⟨.hbm, 45, rfl⟩
abbrev main_call2_v1_0 : Ref sig .tc := ⟨.hbm, 46, rfl⟩
abbrev main_v26 : Ref sig .tc := ⟨.hbm, 47, rfl⟩
abbrev main_call3_v0 : Ref sig .tc := ⟨.hbm, 48, rfl⟩
abbrev main_call3_v1 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_4 : Ref sig .tc := ⟨.hbm, 58, rfl⟩
abbrev main_v32 : Ref sig .tc := ⟨.hbm, 59, rfl⟩
abbrev main_cst_5 : Ref sig .tc := ⟨.hbm, 60, rfl⟩
abbrev main_v33 : Ref sig .tc := ⟨.hbm, 61, rfl⟩
abbrev main_cst_6 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_7 : Ref sig .tc := ⟨.hbm, 67, rfl⟩
abbrev main_v38 : Ref sig .tc := ⟨.hbm, 68, rfl⟩
abbrev main_cst_8 : Ref sig .tc := ⟨.hbm, 69, rfl⟩
abbrev main_v39 : Ref sig .tc := ⟨.hbm, 70, rfl⟩
abbrev main_v40 : Ref sig .tc := ⟨.hbm, 71, rfl⟩
abbrev main_cst_9 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_10 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩

abbrev nD : Nat := 1
abbrev τ : Topo := Topo.v7x

variable {F : FTy → Type} [FloatOps F]
-- ==== Proof.RefRun.lean ====
/- The reference's run, by hand: its operations as a list, what each result buffer holds at the end as a named
   stage of the two arguments that the results read (the tokens' array and the codebook), and the frame. -/
module

public import proofs.«01_k».proof.Proof.Gen.ReferenceIdeal
public import Idealize.ShloMosaic.Lib.StableHlo.Run
public import Idealize.ShloMosaic.Lib.Quiescent

@[expose] public section

noncomputable section

namespace Cert.Vq.Ref

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The tokens' array with its channels last. -/
def nhwc (x : Vec F S16x64x32x32 .f32) : Vec F S16x32x32x64 .f32 :=
  transpose S16x32x32x64 [0, 2, 3, 1] x transposes_S16x64x32x32_S16x32x32x64_0_2_3_1
/-- The tokens, one a row. -/
def flat (x : Vec F S16x64x32x32 .f32) : Vec F S16384x64 .f32 :=
  shapeCast _ (nhwc x) shapeCasts_S16x32x32x64_S16384x64
/-- The divisor of each token: its length, or the small constant where that is greater. -/
def tokDen (x : Vec F S16x64x32x32 .f32) : Vec F S16384x1 .f32 :=
  maximumf (Host.sqrt (broadcastInDim S16384x1 ![0] bcast_S16384_S16384x1_0
      (Host.reduceAdd (mulf (flat x) (flat x)) (constant S_ .f32 0x00000000#32) reducesTo_S16384x64_S16384_d1 h_S_)))
    (broadcastInDim S16384x1 ![] bcast_S_S16384x1 (constant S_ .f32 0x2B8CBCCC#32))
/-- The normalized tokens. -/
def tok (x : Vec F S16x64x32x32 .f32) : Vec F S16384x64 .f32 :=
  Host.divf (flat x) (broadcastInDim S16384x64 ![0, 1] bcast_S16384x1_S16384x64_0_1 (tokDen x))
/-- The divisor of each code. -/
def codeDen (w : Vec F S1024x64 .f32) : Vec F S1024x1 .f32 :=
  maximumf (Host.sqrt (broadcastInDim S1024x1 ![0] bcast_S1024_S1024x1_0
      (Host.reduceAdd (mulf w w) (constant S_ .f32 0x00000000#32) reducesTo_S1024x64_S1024_d1 h_S_)))
    (broadcastInDim S1024x1 ![] bcast_S_S1024x1 (constant S_ .f32 0x2B8CBCCC#32))
/-- The normalized codes. -/
def code (w : Vec F S1024x64 .f32) : Vec F S1024x64 .f32 :=
  Host.divf w (broadcastInDim S1024x64 ![0, 1] bcast_S1024x1_S1024x64_0_1 (codeDen w))
/-- Each normalized token's squared length. -/
def tokSq (x : Vec F S16x64x32x32 .f32) : Vec F S16384 .f32 :=
  Host.reduceAdd (mulf (tok x) (tok x)) (constant S_ .f32 0x00000000#32) reducesTo_S16384x64_S16384_d1 h_S_
/-- Each normalized code's squared length. -/
def codeSq (w : Vec F S1024x64 .f32) : Vec F S1024 .f32 :=
  Host.reduceAdd (mulf (code w) (code w)) (constant S_ .f32 0x00000000#32) reducesTo_S1024x64_S1024_d1 h_S_
/-- The inner products of tokens and codes. -/
def inner (x : Vec F S16x64x32x32 .f32) (w : Vec F S1024x64 .f32) : Vec F S16384x1024 .f32 :=
  Host.dotGeneral dot_S16384x64_S64x1024_S16384x1024_1_0_0_1_n_n none (tok x) (transpose S64x1024 [1, 0] (code w) transposes_S1024x64_S64x1024_1_0)
/-- The squared distances. -/
def dist (x : Vec F S16x64x32x32 .f32) (w : Vec F S1024x64 .f32) : Vec F S16384x1024 .f32 :=
  subf (addf (broadcastInDim S16384x1024 ![0, 1] bcast_S16384x1_S16384x1024_0_1 (broadcastInDim S16384x1 ![0] bcast_S16384_S16384x1_0 (tokSq x)))
      (broadcastInDim S16384x1024 ![0, 1] bcast_S1x1024_S16384x1024_0_1 (broadcastInDim S1x1024 ![1] bcast_S1024_S1x1024_1 (codeSq w))))
    (mulf (broadcastInDim S16384x1024 ![] bcast_S_S16384x1024 (constant S_ .f32 0x40000000#32)) (inner x w))
/-- The number of a least entry of each row. -/
def pick (d : Vec F S16384x1024 .f32) : Vec F S16384 .i32 := fun j =>
  (Host.argReduce reducer_argmin_f32_i32 d (iotaInDim S16384x1024 32 1) (constant S_ .f32 0x7F800000#32) (constantI S_ 32 0#32)
    reducesTo_S16384x1024_S16384_d1 h_S_ j).2
/-- The rows that hold one at the given number, zero elsewhere. -/
def oneHot (p : Vec F S16384 .i32) : Vec F S16384x1024 .f32 :=
  uitofp .f32 (cmpi .eq
    (broadcastInDim S16384x1024 ![0, 1] bcast_S16384x1_S16384x1024_0_1 (broadcastInDim S16384x1 ![0] bcast_S16384_S16384x1_0 p))
    (broadcastInDim S16384x1024 ![0, 1] bcast_S1x1024_S16384x1024_0_1 (iotaInDim S1x1024 32 1)))
/-- The encodings. -/
def enc (x : Vec F S16x64x32x32 .f32) (w : Vec F S1024x64 .f32) : Vec F S16384x1024 .f32 := oneHot (pick (dist x w))
/-- The rows of the codebook that the encodings `e` select, less the tokens. -/
def diff (x : Vec F S16x64x32x32 .f32) (w : Vec F S1024x64 .f32) (e : Vec F S16384x1024 .f32) : Vec F S16x32x32x64 .f32 :=
  subf (shapeCast _ (Host.dotGeneral dot_S16384x1024_S1024x64_S16384x64_1_0_0_1_n_n none e w) shapeCasts_S16384x64_S16x32x32x64) (nhwc x)
/-- The quantized tokens, channels second. -/
def quant (x : Vec F S16x64x32x32 .f32) (w : Vec F S1024x64 .f32) (e : Vec F S16384x1024 .f32) : Vec F S16x64x32x32 .f32 :=
  transpose S16x64x32x32 [0, 3, 1, 2] (addf (nhwc x) (diff x w e)) transposes_S16x32x32x64_S16x64x32x32_0_3_1_2
/-- The loss. -/
def loss (x : Vec F S16x64x32x32 .f32) (w : Vec F S1024x64 .f32) (e : Vec F S16384x1024 .f32) : Vec F S_ .f32 :=
  mulf (constant S_ .f32 0x3E800000#32) (Host.divf
    (Host.reduceAdd (mulf (diff x w e) (diff x w e)) (constant S_ .f32 0x00000000#32) reducesTo_S16x32x32x64_S_d0_1_2_3 h_S_) (constant S_ .f32 0x49800000#32))
/-- The share of the tokens that each code has. -/
def share (e : Vec F S16384x1024 .f32) : Vec F S1024 .f32 :=
  Host.divf (Host.reduceAdd e (constant S_ .f32 0x00000000#32) reducesTo_S16384x1024_S1024_d0 h_S_)
    (broadcastInDim S1024 ![] bcast_S_S1024 (constant S_ .f32 0x46800000#32))
/-- The perplexity. -/
def perp (e : Vec F S16384x1024 .f32) : Vec F S_ .f32 :=
  Host.exp (Host.negf (Host.reduceAdd (mulf (share e) (Host.log (addf (share e) (broadcastInDim S1024 ![] bcast_S_S1024 (constant S_ .f32 0x2EDBE6FF#32)))))
    (constant S_ .f32 0x00000000#32) reducesTo_S1024_S_d0 h_S_))

/-! ## The run -/

/-- The reference's operations, in order. -/
abbrev ops : List (HloOp τ sig (Elt F)) :=
  [ unary main_arg0 main_v0 ((transpose S16x32x32x64 [0, 2, 3, 1] · transposes_S16x64x32x32_S16x32x32x64_0_2_3_1) : (⟨S16x64x32x32, .f32⟩ : BufTy).Contents (Elt F) → (⟨S16x32x32x64, .f32⟩ : BufTy).Contents (Elt F)),
    reshape main_v0 main_v1 (rfl : (.f32 : EltTy) = .f32) shapeCasts_S16x32x32x64_S16384x64,
    TRef.binary (TRef.of (T := ⟨S16384x64, .f32⟩) main_v1) (TRef.of (T := ⟨S16384x64, .f32⟩) main_v1) (TRef.of (T := ⟨S16384x64, .f32⟩) main_call0_v0) mulf,
    TRef.nullary (TRef.of (T := ⟨S_, .f32⟩) main_call0_cst) (constant S_ .f32 0x00000000#32),
    TRef.binary (TRef.of (T := ⟨S16384x64, .f32⟩) main_call0_v0) (TRef.of (T := ⟨S_, .f32⟩) main_call0_cst) (TRef.of (T := ⟨S16384, .f32⟩) main_call0_v1) (fun x v => Host.reduceAdd x v reducesTo_S16384x64_S16384_d1 h_S_),
    TRef.unary (TRef.of (T := ⟨S16384, .f32⟩) main_call0_v1) (TRef.of (T := ⟨S16384x1, .f32⟩) main_call0_v2) (broadcastInDim S16384x1 ![0] bcast_S16384_S16384x1_0),
    TRef.unary (TRef.of (T := ⟨S16384x1, .f32⟩) main_call0_v2) (TRef.of (T := ⟨S16384x1, .f32⟩) main_v2) Host.sqrt,
    nullary main_cst (constant S_ .f32 0x2B8CBCCC#32),
    unary main_cst main_v3 (broadcastInDim S16384x1 ![] bcast_S_S16384x1 : (⟨S_, .f32⟩ : BufTy).Contents (Elt F) → (⟨S16384x1, .f32⟩ : BufTy).Contents (Elt F)),
    binary main_v2 main_v3 main_v4 (maximumf : (⟨S16384x1, .f32⟩ : BufTy).Contents (Elt F) → (⟨S16384x1, .f32⟩ : BufTy).Contents (Elt F) → (⟨S16384x1, .f32⟩ : BufTy).Contents (Elt F)),
    unary main_v4 main_v5 (broadcastInDim S16384x64 ![0, 1] bcast_S16384x1_S16384x64_0_1 : (⟨S16384x1, .f32⟩ : BufTy).Contents (Elt F) → (⟨S16384x64, .f32⟩ : BufTy).Contents (Elt F)),
    binary main_v1 main_v5 main_v6 (Host.divf : (⟨S16384x64, .f32⟩ : BufTy).Contents (Elt F) → (⟨S16384x64, .f32⟩ : BufTy).Contents (Elt F) → (⟨S16384x64, .f32⟩ : BufTy).Contents (Elt F)),
    TRef.binary (TRef.of (T := ⟨S1024x64, .f32⟩) main_arg1) (TRef.of (T := ⟨S1024x64, .f32⟩) main_arg1) (TRef.of (T := ⟨S1024x64, .f32⟩) main_call1_v0) mulf,
    TRef.nullary (TRef.of (T := ⟨S_, .f32⟩) main_call1_cst) (constant S_ .f32 0x00000000#32),
    TRef.binary (TRef.of (T := ⟨S1024x64, .f32⟩) main_call1_v0) (TRef.of (T := ⟨S_, .f32⟩) main_call1_cst) (TRef.of (T := ⟨S1024, .f32⟩) main_call1_v1) (fun x v => Host.reduceAdd x v reducesTo_S1024x64_S1024_d1 h_S_),
    TRef.unary (TRef.of (T := ⟨S1024, .f32⟩) main_call1_v1) (TRef.of (T := ⟨S1024x1, .f32⟩) main_call1_v2) (broadcastInDim S1024x1 ![0] bcast_S1024_S1024x1_0),
    TRef.unary (TRef.of (T := ⟨S1024x1, .f32⟩) main_call1_v2) (TRef.of (T := ⟨S1024x1, .f32⟩) main_v7) Host.sqrt,
    nullary main_cst_0 (constant S_ .f32 0x2B8CBCCC#32),
    unary main_cst_0 main_v8 (broadcastInDim S1024x1 ![] bcast_S_S1024x1 : (⟨S_, .f32⟩ : BufTy).Contents (Elt F) → (⟨S1024x1, .f32⟩ : BufTy).Contents (Elt F)),
    binary main_v7 main_v8 main_v9 (maximumf : (⟨S1024x1, .f32⟩ : BufTy).Contents (Elt F) → (⟨S1024x1, .f32⟩ : BufTy).Contents (Elt F) → (⟨S1024x1, .f32⟩ : BufTy).Contents (Elt F)),
    unary main_v9 main_v10 (broadcastInDim S1024x64 ![0, 1] bcast_S1024x1_S1024x64_0_1 : (⟨S1024x1, .f32⟩ : BufTy).Contents (Elt F) → (⟨S1024x64, .f32⟩ : BufTy).Contents (Elt F)),
    binary main_arg1 main_v10 main_v11 (Host.divf : (⟨S1024x64, .f32⟩ : BufTy).Contents (Elt F) → (⟨S1024x64, .f32⟩ : BufTy).Contents (Elt F) → (⟨S1024x64, .f32⟩ : BufTy).Contents (Elt F)),
    binary main_v6 main_v6 main_v12 (mulf : (⟨S16384x64, .f32⟩ : BufTy).Contents (Elt F) → (⟨S16384x64, .f32⟩ : BufTy).Contents (Elt F) → (⟨S16384x64, .f32⟩ : BufTy).Contents (Elt F)),
    nullary main_cst_1 (constant S_ .f32 0x00000000#32),
    binary main_v12 main_cst_1 main_v13 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F)),
    unary main_v13 main_v14 (broadcastInDim S16384x1 ![0] bcast_S16384_S16384x1_0 : (⟨S16384, .f32⟩ : BufTy).Contents (Elt F) → (⟨S16384x1, .f32⟩ : BufTy).Contents (Elt F)),
    binary main_v11 main_v11 main_v15 (mulf : (⟨S1024x64, .f32⟩ : BufTy).Contents (Elt F) → (⟨S1024x64, .f32⟩ : BufTy).Contents (Elt F) → (⟨S1024x64, .f32⟩ : BufTy).Contents (Elt F)),
    nullary main_cst_2 (constant S_ .f32 0x00000000#32),
    binary main_v15 main_cst_2 main_v16 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v16 main_v17 (broadcastInDim S1x1024 ![1] bcast_S1024_S1x1024_1 : (⟨S1024, .f32⟩ : BufTy).Contents (Elt F) → (⟨S1x1024, .f32⟩ : BufTy).Contents (Elt F)),
    unary main_v14 main_v18 (broadcastInDim S16384x1024 ![0, 1] bcast_S16384x1_S16384x1024_0_1 : (⟨S16384x1, .f32⟩ : BufTy).Contents (Elt F) → (⟨S16384x1024, .f32⟩ : BufTy).Contents (Elt F)),
    unary main_v17 main_v19 (broadcastInDim S16384x1024 ![0, 1] bcast_S1x1024_S16384x1024_0_1 : (⟨S1x1024, .f32⟩ : BufTy).Contents (Elt F) → (⟨S16384x1024, .f32⟩ : BufTy).Contents (Elt F)),
    binary main_v18 main_v19 main_v20 (addf : (⟨S16384x1024, .f32⟩ : BufTy).Contents (Elt F) → (⟨S16384x1024, .f32⟩ : BufTy).Contents (Elt F) → (⟨S16384x1024, .f32⟩ : BufTy).Contents (Elt F)),
    unary main_v11 main_v21 ((transpose S64x1024 [1, 0] · transposes_S1024x64_S64x1024_1_0) : (⟨S1024x64, .f32⟩ : BufTy).Contents (Elt F) → (⟨S64x1024, .f32⟩ : BufTy).Contents (Elt F)),
    binary main_v6 main_v21 main_v22 ((fun l r => Host.dotGeneral dot_S16384x64_S64x1024_S16384x1024_1_0_0_1_n_n none l r) : (⟨S16384x64, .f32⟩ : BufTy).Contents (Elt F) → (⟨S64x1024, .f32⟩ : BufTy).Contents (Elt F) → (⟨S16384x1024, .f32⟩ : BufTy).Contents (Elt F)),
    nullary main_cst_3 (constant S_ .f32 0x40000000#32),
    unary main_cst_3 main_v23 (broadcastInDim S16384x1024 ![] bcast_S_S16384x1024 : (⟨S_, .f32⟩ : BufTy).Contents (Elt F) → (⟨S16384x1024, .f32⟩ : BufTy).Contents (Elt F)),
    binary main_v23 main_v22 main_v24 (mulf : (⟨S16384x1024, .f32⟩ : BufTy).Contents (Elt F) → (⟨S16384x1024, .f32⟩ : BufTy).Contents (Elt F) → (⟨S16384x1024, .f32⟩ : BufTy).Contents (Elt F)),
    binary main_v20 main_v24 main_v25 (subf : (⟨S16384x1024, .f32⟩ : BufTy).Contents (Elt F) → (⟨S16384x1024, .f32⟩ : BufTy).Contents (Elt F) → (⟨S16384x1024, .f32⟩ : BufTy).Contents (Elt F)),
    TRef.nullary (TRef.of (T := ⟨S16384x1024, .i32⟩) main_call2_v0) (iotaInDim S16384x1024 32 1),
    TRef.nullary (TRef.of (T := ⟨S_, .f32⟩) main_call2_cst) (constant S_ .f32 0x7F800000#32),
    TRef.nullary (TRef.of (T := ⟨S_, .i32⟩) main_call2_c) (constantI S_ 32 0#32),
    TRef.quaternary (TRef.of (T := ⟨S16384x1024, .f32⟩) main_v25) (TRef.of (T := ⟨S16384x1024, .i32⟩) main_call2_v0) (TRef.of (T := ⟨S_, .f32⟩) main_call2_cst) (TRef.of (T := ⟨S_, .i32⟩) main_call2_c) (TRef.of (T := ⟨S16384, .f32⟩) main_call2_v1_0) (fun x y u v j => (Host.argReduce reducer_argmin_f32_i32 x y u v reducesTo_S16384x1024_S16384_d1 h_S_ j).1),
    TRef.quaternary (TRef.of (T := ⟨S16384x1024, .f32⟩) main_v25) (TRef.of (T := ⟨S16384x1024, .i32⟩) main_call2_v0) (TRef.of (T := ⟨S_, .f32⟩) main_call2_cst) (TRef.of (T := ⟨S_, .i32⟩) main_call2_c) (TRef.of (T := ⟨S16384, .i32⟩) main_v26) (fun x y u v j => (Host.argReduce reducer_argmin_f32_i32 x y u v reducesTo_S16384x1024_S16384_d1 h_S_ j).2),
    TRef.unary (TRef.of (T := ⟨S16384, .i32⟩) main_v26) (TRef.of (T := ⟨S16384x1, .i32⟩) main_call3_v0) (broadcastInDim S16384x1 ![0] bcast_S16384_S16384x1_0),
    TRef.nullary (TRef.of (T := ⟨S1x1024, .i32⟩) main_call3_v1) (iotaInDim S1x1024 32 1),
    TRef.unary (TRef.of (T := ⟨S16384x1, .i32⟩) main_call3_v0) (TRef.of (T := ⟨S16384x1024, .i32⟩) main_call3_v2) (broadcastInDim S16384x1024 ![0, 1] bcast_S16384x1_S16384x1024_0_1),
    TRef.unary (TRef.of (T := ⟨S1x1024, .i32⟩) main_call3_v1) (TRef.of (T := ⟨S16384x1024, .i32⟩) main_call3_v3) (broadcastInDim S16384x1024 ![0, 1] bcast_S1x1024_S16384x1024_0_1),
    TRef.binary (TRef.of (T := ⟨S16384x1024, .i32⟩) main_call3_v2) (TRef.of (T := ⟨S16384x1024, .i32⟩) main_call3_v3) (TRef.of (T := ⟨S16384x1024, .i1⟩) main_call3_v4) (cmpi .eq),
    TRef.unary (TRef.of (T := ⟨S16384x1024, .i1⟩) main_call3_v4) (TRef.of (T := ⟨S16384x1024, .f32⟩) main_v27) (uitofp .f32),
    binary main_v27 main_arg1 main_v28 ((fun l r => Host.dotGeneral dot_S16384x1024_S1024x64_S16384x64_1_0_0_1_n_n none l r) : (⟨S16384x1024, .f32⟩ : BufTy).Contents (Elt F) → (⟨S1024x64, .f32⟩ : BufTy).Contents (Elt F) → (⟨S16384x64, .f32⟩ : BufTy).Contents (Elt F)),
    reshape main_v28 main_v29 (rfl : (.f32 : EltTy) = .f32) shapeCasts_S16384x64_S16x32x32x64,
    binary main_v29 main_v0 main_v30 (subf : (⟨S16x32x32x64, .f32⟩ : BufTy).Contents (Elt F) → (⟨S16x32x32x64, .f32⟩ : BufTy).Contents (Elt F) → (⟨S16x32x32x64, .f32⟩ : BufTy).Contents (Elt F)),
    binary main_v30 main_v30 main_v31 (mulf : (⟨S16x32x32x64, .f32⟩ : BufTy).Contents (Elt F) → (⟨S16x32x32x64, .f32⟩ : BufTy).Contents (Elt F) → (⟨S16x32x32x64, .f32⟩ : BufTy).Contents (Elt F)),
    nullary main_cst_4 (constant S_ .f32 0x00000000#32),
    binary main_v31 main_cst_4 main_v32 ((fun x v => Host.reduceAdd x v reducesTo_S16x32x32x64_S_d0_1_2_3 h_S_) : (⟨S16x32x32x64, .f32⟩ : BufTy).Contents (Elt F) → (⟨S_, .f32⟩ : BufTy).Contents (Elt F) → (⟨S_, .f32⟩ : BufTy).Contents (Elt F)),
    nullary main_cst_5 (constant S_ .f32 0x49800000#32),
    binary main_v32 main_cst_5 main_v33 (Host.divf : (⟨S_, .f32⟩ : BufTy).Contents (Elt F) → (⟨S_, .f32⟩ : BufTy).Contents (Elt F) → (⟨S_, .f32⟩ : BufTy).Contents (Elt F)),
    nullary main_cst_6 (constant S_ .f32 0x3E800000#32),
    binary main_cst_6 main_v33 main_v34 (mulf : (⟨S_, .f32⟩ : BufTy).Contents (Elt F) → (⟨S_, .f32⟩ : BufTy).Contents (Elt F) → (⟨S_, .f32⟩ : BufTy).Contents (Elt F)),
    binary main_v29 main_v0 main_v35 (subf : (⟨S16x32x32x64, .f32⟩ : BufTy).Contents (Elt F) → (⟨S16x32x32x64, .f32⟩ : BufTy).Contents (Elt F) → (⟨S16x32x32x64, .f32⟩ : BufTy).Contents (Elt F)),
    binary main_v0 main_v35 main_v36 (addf : (⟨S16x32x32x64, .f32⟩ : BufTy).Contents (Elt F) → (⟨S16x32x32x64, .f32⟩ : BufTy).Contents (Elt F) → (⟨S16x32x32x64, .f32⟩ : BufTy).Contents (Elt F)),
    unary main_v36 main_v37 ((transpose S16x64x32x32 [0, 3, 1, 2] · transposes_S16x32x32x64_S16x64x32x32_0_3_1_2) : (⟨S16x32x32x64, .f32⟩ : BufTy).Contents (Elt F) → (⟨S16x64x32x32, .f32⟩ : BufTy).Contents (Elt F)),
    nullary main_cst_7 (constant S_ .f32 0x00000000#32),
    binary main_v27 main_cst_7 main_v38 ((fun x v => Host.reduceAdd x v reducesTo_S16384x1024_S1024_d0 h_S_) : (⟨S16384x1024, .f32⟩ : BufTy).Contents (Elt F) → (⟨S_, .f32⟩ : BufTy).Contents (Elt F) → (⟨S1024, .f32⟩ : BufTy).Contents (Elt F)),
    nullary main_cst_8 (constant S_ .f32 0x46800000#32),
    unary main_cst_8 main_v39 (broadcastInDim S1024 ![] bcast_S_S1024 : (⟨S_, .f32⟩ : BufTy).Contents (Elt F) → (⟨S1024, .f32⟩ : BufTy).Contents (Elt F)),
    binary main_v38 main_v39 main_v40 (Host.divf : (⟨S1024, .f32⟩ : BufTy).Contents (Elt F) → (⟨S1024, .f32⟩ : BufTy).Contents (Elt F) → (⟨S1024, .f32⟩ : BufTy).Contents (Elt F)),
    nullary main_cst_9 (constant S_ .f32 0x2EDBE6FF#32),
    unary main_cst_9 main_v41 (broadcastInDim S1024 ![] bcast_S_S1024 : (⟨S_, .f32⟩ : BufTy).Contents (Elt F) → (⟨S1024, .f32⟩ : BufTy).Contents (Elt F)),
    binary main_v40 main_v41 main_v42 (addf : (⟨S1024, .f32⟩ : BufTy).Contents (Elt F) → (⟨S1024, .f32⟩ : BufTy).Contents (Elt F) → (⟨S1024, .f32⟩ : BufTy).Contents (Elt F)),
    unary main_v42 main_v43 (Host.log : (⟨S1024, .f32⟩ : BufTy).Contents (Elt F) → (⟨S1024, .f32⟩ : BufTy).Contents (Elt F)),
    binary main_v40 main_v43 main_v44 (mulf : (⟨S1024, .f32⟩ : BufTy).Contents (Elt F) → (⟨S1024, .f32⟩ : BufTy).Contents (Elt F) → (⟨S1024, .f32⟩ : BufTy).Contents (Elt F)),
    nullary main_cst_10 (constant S_ .f32 0x00000000#32),
    binary main_v44 main_cst_10 main_v45 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    unary main_v45 main_v46 (Host.negf : (⟨S_, .f32⟩ : BufTy).Contents (Elt F) → (⟨S_, .f32⟩ : BufTy).Contents (Elt F)),
    unary main_v46 main_v47 (Host.exp : (⟨S_, .f32⟩ : BufTy).Contents (Elt F) → (⟨S_, .f32⟩ : BufTy).Contents (Elt F)) ]

set_option maxRecDepth 8192 in
set_option maxHeartbeats 4000000 in
/-- The reference's program is its operations in sequence. -/
theorem main_seq (c : Dev nD) : main (F := F) c = seq ops := rfl
/-- It scopes no buffer. -/
theorem no_scoped_refs : (Finset.univ.filter fun b : Ref sig .tc => b.isScoped) = ∅ := by decide
/-- It scopes no semaphore. -/
theorem no_scoped_sems : (Finset.univ.filter fun sm : SemLoc sig => sm.isScoped .tc) = ∅ := by decide
set_option maxRecDepth 8192 in
/-- Its operations touch the core's buffers only. -/
theorem ops_bufs : (ops : List (HloOp τ sig (Elt F))).Forall fun op => op.bufs ⊆ tcRefs τ sig :=
  ⟨unary_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., reshape_bufs_sub .., binary_bufs_sub .., binary_bufs_sub .., nullary_bufs_sub .., binary_bufs_sub .., nullary_bufs_sub .., binary_bufs_sub .., nullary_bufs_sub .., binary_bufs_sub .., binary_bufs_sub .., binary_bufs_sub .., unary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub ..⟩

set_option maxRecDepth 8192 in
set_option maxHeartbeats 30000000 in
/-- Every weakly fair execution of the reference ends, with each result at its stage and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37) = quant (m ((c.tc : Thread nD τ).loc main_arg0)) (m ((c.tc : Thread nD τ).loc main_arg1)) (enc (m ((c.tc : Thread nD τ).loc main_arg0)) (m ((c.tc : Thread nD τ).loc main_arg1)))
      ∧ r.2.mem ((c.tc : Thread nD τ).loc main_v34) = loss (m ((c.tc : Thread nD τ).loc main_arg0)) (m ((c.tc : Thread nD τ).loc main_arg1)) (enc (m ((c.tc : Thread nD τ).loc main_arg0)) (m ((c.tc : Thread nD τ).loc main_arg1)))
      ∧ r.2.mem ((c.tc : Thread nD τ).loc main_v47) = perp (enc (m ((c.tc : Thread nD τ).loc main_arg0)) (m ((c.tc : Thread nD τ).loc main_arg1)))
      ∧ r.2.mem ((c.tc : Thread nD τ).loc main_v27) = enc (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v37).trans (by simp only [ops, TRef.binary, TRef.nullary, TRef.unary, TRef.quaternary, TRef.toBuf, TRef.ofBuf, cast_eq]; after_results_simp <;> rfl),
      (h c main_v34).trans (by simp only [ops, TRef.binary, TRef.nullary, TRef.unary, TRef.quaternary, TRef.toBuf, TRef.ofBuf, cast_eq]; after_results_simp <;> rfl),
      (h c main_v47).trans (by simp only [ops, TRef.binary, TRef.nullary, TRef.unary, TRef.quaternary, TRef.toBuf, TRef.ofBuf, cast_eq]; after_results_simp <;> rfl),
      (h c main_v27).trans (by simp only [ops, TRef.binary, TRef.nullary, TRef.unary, TRef.quaternary, TRef.toBuf, TRef.ofBuf, cast_eq]; after_results_simp <;> rfl),
      (h c main_arg0).trans (by simp only [ops, TRef.binary, TRef.nullary, TRef.unary, TRef.quaternary, TRef.toBuf, TRef.ofBuf, cast_eq]; after_results_simp <;> rfl),
      (h c main_arg1).trans (by simp only [ops, TRef.binary, TRef.nullary, TRef.unary, TRef.quaternary, TRef.toBuf, TRef.ofBuf, cast_eq]; after_results_simp <;> rfl),
      (h c main_arg2).trans (by simp only [ops, TRef.binary, TRef.nullary, TRef.unary, TRef.quaternary, TRef.toBuf, TRef.ofBuf, cast_eq]; after_results_simp <;> rfl),
      (h c main_arg3).trans (by simp only [ops, TRef.binary, TRef.nullary, TRef.unary, TRef.quaternary, TRef.toBuf, TRef.ofBuf, cast_eq]; after_results_simp <;> rfl)⟩)
    (run_seq no_scoped_refs no_scoped_sems defs main (fun _ => ops) main_seq (fun _ => ops_bufs) m ρ)

/-- The frame: the arguments unchanged, and every counter at zero since the program declares no semaphore. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun _ h => ⟨fun c => (h c).2.2.2.2, sem_eq_zero_of_no_sems (by decide) _⟩) (run m ρ)

end Cert.Vq.Ref

end
-- ==== Proof.Body.lean ====
/- What the kernel's body leaves in each of its buffers, case by case: one stored value a buffer, read off the stores
   that the run found.  Case A is the first grid point, case C the last, case B every one between. -/
module

public import proofs.«01_k».proof.Proof.Gen.KernelIdeal.Frame
public import Idealize.ShloMosaic.Lib.Pipeline.Value
public import Idealize.ShloMosaic.Lib.ValueIdx

@[expose] public section

set_option maxRecDepth 16384

noncomputable section

namespace Cert.Vq.Body

open Cert.KernelIdeal Cert.KernelIdeal.Gen Idealize.ShloMosaic Idealize.ShloMosaic.ValueIdx Idealize.ShloMosaic.TcCoe Idealize.ShloMosaic.Tactic

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl

/-- A shape of one element has one index. -/
theorem idx_one (p q : S1x1.Idx) : p = q := by
  have one : ∀ u v : Fin 1, u = v := fun u v => Subsingleton.elim u v
  funext a
  match a with
  | ⟨0, _⟩ => exact one _ _
  | ⟨1, _⟩ => exact one _ _

/-- A load of the one word of a 1×1 array. -/
theorem ld_one (x : Vec F S1x1 .f32) (j : S1x1.Idx) :
    View.ld x (Rect.unit ![0, 0] ![1, 1] inb_S1x1_S1x1_0_0) j = x (ix2 0 0) :=
  congrArg x (idx_one _ _)

variable (c : Dev nD) (i : grid0.Coords)
  (arg1 : Memref sig .tc .vmem S1x1024x64 .f32) (harg1 : arg1.IsWhole)
  (arg2 : Memref sig .tc .vmem S1x1024x64 .f32) (harg2 : arg2.IsWhole)
  (arg3 : Memref sig .tc .vmem S1x1024x1 .f32) (harg3 : arg3.IsWhole)
  (arg4 : Memref sig .tc .vmem S1024x64 .f32) (harg4 : arg4.IsWhole)
  (arg5 : Memref sig .tc .vmem S1024x1024 .f32) (harg5 : arg5.IsWhole)
  (arg6 : Memref sig .tc .vmem S1x1024x64 .f32) (harg6 : arg6.IsWhole)
  (arg7 : Memref sig .tc .smem S1x1 .f32) (harg7 : arg7.IsWhole)
  (arg8 : Memref sig .tc .smem S1x1 .f32) (harg8 : arg8.IsWhole)
  (arg9 : Memref sig .tc .vmem S1x1024 .f32) (harg9 : arg9.IsWhole)
  (arg10 : Memref sig .tc .smem S1x1 .f32) (harg10 : arg10.IsWhole)
  (arg11 : Memref sig .tc .vmem S64x1024 .f32) (harg11 : arg11.IsWhole)
  (arg12 : Memref sig .tc .vmem S1x1024 .f32) (harg12 : arg12.IsWhole)

/-- Case A: the encodings. -/
theorem out4_A (hc0 : cond0_0 i) (hc1 : cond0_1 i) (hc2 : ¬cond0_2 i) (hc3 : ¬cond0_3 i)
    (x0 x1 : Vec F S1x1024x64 .f32) (x2 : Vec F S1x1024x1 .f32) (x3 : Vec F S1024x64 .f32) :
    out0_A_4 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3
      = (k0_pay13 x1 x2 (k0_pay9 x3) (k0_pay12 (k0_pay10 x3))) := by
  unfold out0_A_4
  rw [View.read_writes_eq_canon _ _ _ (cover0_A_4 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3)]
  unfold kernelRun0_A
  dsimp only
  sl_unfold_words
  rw [View.canon_cons_unit_zero (S := S1024x1024) off2]
  simp only [View.readAt_eq_ld, harg1.read_unread, harg2.read_unread, harg3.read_unread, harg4.read_unread, harg9.read_unread, harg10.read_unread, harg11.read_unread, harg12.read_unread,
    View.ld_unit_zero (S := S1x1024x64) off3, View.ld_unit_zero (S := S1x1024x1) off3, View.ld_unit_zero (S := S1024x64) off2,
    View.ld_unit_zero (S := S1x1024) off2, View.ld_unit_zero (S := S1x1) off2, View.ld_unit_zero (S := S64x1024) off2,
    View.readCov_unit_zero (S := S64x1024) _ off2, View.readCov_unit_zero (S := S1x1024) _ off2, View.readCov_unit_zero (S := S1x1) _ off2]

/-- Case A: the quantized block. -/
theorem out5_A (hc0 : cond0_0 i) (hc1 : cond0_1 i) (hc2 : ¬cond0_2 i) (hc3 : ¬cond0_3 i)
    (x0 x1 : Vec F S1x1024x64 .f32) (x2 : Vec F S1x1024x1 .f32) (x3 : Vec F S1024x64 .f32) :
    out0_A_5 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3
      = k0_pay15 x0 x1 x2 x3 (k0_pay9 x3) (k0_pay12 (k0_pay10 x3)) := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3)]
  unfold kernelRun0_A
  dsimp only
  sl_unfold_words
  rw [View.canon_cons_unit_zero (S := S1x1024x64) off3]
  simp only [View.readAt_eq_ld, harg1.read_unread, harg2.read_unread, harg3.read_unread, harg4.read_unread, harg9.read_unread, harg10.read_unread, harg11.read_unread, harg12.read_unread,
    View.ld_unit_zero (S := S1x1024x64) off3, View.ld_unit_zero (S := S1x1024x1) off3, View.ld_unit_zero (S := S1024x64) off2,
    View.ld_unit_zero (S := S1x1024) off2, View.ld_unit_zero (S := S1x1) off2, View.ld_unit_zero (S := S64x1024) off2,
    View.readCov_unit_zero (S := S64x1024) _ off2, View.readCov_unit_zero (S := S1x1024) _ off2, View.readCov_unit_zero (S := S1x1) _ off2]

/-- Case A: the counts. -/
theorem s0_A (hc0 : cond0_0 i) (hc1 : cond0_1 i) (hc2 : ¬cond0_2 i) (hc3 : ¬cond0_3 i)
    (x0 x1 : Vec F S1x1024x64 .f32) (x2 : Vec F S1x1024x1 .f32) (x3 : Vec F S1024x64 .f32) :
    sout0_A_0 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3
      = (k0_pay3 (k0_pay13 x1 x2 (k0_pay9 x3) (k0_pay12 (k0_pay10 x3)))) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3)]
  unfold kernelRun0_A
  dsimp only
  sl_unfold_words
  rw [View.canon_cons_unit_zero (S := S1x1024) off2]
  simp only [View.readAt_eq_ld, harg1.read_unread, harg2.read_unread, harg3.read_unread, harg4.read_unread, harg9.read_unread, harg10.read_unread, harg11.read_unread, harg12.read_unread,
    View.ld_unit_zero (S := S1x1024x64) off3, View.ld_unit_zero (S := S1x1024x1) off3, View.ld_unit_zero (S := S1024x64) off2,
    View.ld_unit_zero (S := S1x1024) off2, View.ld_unit_zero (S := S1x1) off2, View.ld_unit_zero (S := S64x1024) off2,
    View.readCov_unit_zero (S := S64x1024) _ off2, View.readCov_unit_zero (S := S1x1024) _ off2, View.readCov_unit_zero (S := S1x1) _ off2]

/-- Case A: the running loss. -/
theorem s1_A (hc0 : cond0_0 i) (hc1 : cond0_1 i) (hc2 : ¬cond0_2 i) (hc3 : ¬cond0_3 i)
    (x0 x1 : Vec F S1x1024x64 .f32) (x2 : Vec F S1x1024x1 .f32) (x3 : Vec F S1024x64 .f32) :
    sout0_A_1 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3
      = fun _ => (k0_pay1 (k0_pay16 x0 x1 x2 x3 (k0_pay9 x3) (k0_pay12 (k0_pay10 x3)))) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3)]
  unfold kernelRun0_A
  dsimp only
  sl_unfold_words
  rw [View.canon_cons_unit_zero (S := S1x1) off2]
  simp only [View.readAt_eq_ld, harg1.read_unread, harg2.read_unread, harg3.read_unread, harg4.read_unread, harg9.read_unread, harg10.read_unread, harg11.read_unread, harg12.read_unread,
    View.ld_unit_zero (S := S1x1024x64) off3, View.ld_unit_zero (S := S1x1024x1) off3, View.ld_unit_zero (S := S1024x64) off2,
    View.ld_unit_zero (S := S1x1024) off2, View.ld_unit_zero (S := S1x1) off2, View.ld_unit_zero (S := S64x1024) off2,
    View.readCov_unit_zero (S := S64x1024) _ off2, View.readCov_unit_zero (S := S1x1024) _ off2, View.readCov_unit_zero (S := S1x1) _ off2]
  rfl

/-- Case A: the scaled codes. -/
theorem s2_A (hc0 : cond0_0 i) (hc1 : cond0_1 i) (hc2 : ¬cond0_2 i) (hc3 : ¬cond0_3 i)
    (x0 x1 : Vec F S1x1024x64 .f32) (x2 : Vec F S1x1024x1 .f32) (x3 : Vec F S1024x64 .f32) :
    sout0_A_2 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3
      = (k0_pay9 x3) := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3)]
  unfold kernelRun0_A
  dsimp only
  sl_unfold_words
  rw [View.canon_cons_unit_zero (S := S64x1024) off2]
  simp only [View.readAt_eq_ld, harg1.read_unread, harg2.read_unread, harg3.read_unread, harg4.read_unread, harg9.read_unread, harg10.read_unread, harg11.read_unread, harg12.read_unread,
    View.ld_unit_zero (S := S1x1024x64) off3, View.ld_unit_zero (S := S1x1024x1) off3, View.ld_unit_zero (S := S1024x64) off2,
    View.ld_unit_zero (S := S1x1024) off2, View.ld_unit_zero (S := S1x1) off2, View.ld_unit_zero (S := S64x1024) off2,
    View.readCov_unit_zero (S := S64x1024) _ off2, View.readCov_unit_zero (S := S1x1024) _ off2, View.readCov_unit_zero (S := S1x1) _ off2]

/-- Case A: the code lengths. -/
theorem s3_A (hc0 : cond0_0 i) (hc1 : cond0_1 i) (hc2 : ¬cond0_2 i) (hc3 : ¬cond0_3 i)
    (x0 x1 : Vec F S1x1024x64 .f32) (x2 : Vec F S1x1024x1 .f32) (x3 : Vec F S1024x64 .f32) :
    sout0_A_3 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3
      = (k0_pay12 (k0_pay10 x3)) := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3)]
  unfold kernelRun0_A
  dsimp only
  sl_unfold_words
  rw [View.canon_cons_unit_zero (S := S1x1024) off2]
  simp only [View.readAt_eq_ld, harg1.read_unread, harg2.read_unread, harg3.read_unread, harg4.read_unread, harg9.read_unread, harg10.read_unread, harg11.read_unread, harg12.read_unread,
    View.ld_unit_zero (S := S1x1024x64) off3, View.ld_unit_zero (S := S1x1024x1) off3, View.ld_unit_zero (S := S1024x64) off2,
    View.ld_unit_zero (S := S1x1024) off2, View.ld_unit_zero (S := S1x1) off2, View.ld_unit_zero (S := S64x1024) off2,
    View.readCov_unit_zero (S := S64x1024) _ off2, View.readCov_unit_zero (S := S1x1024) _ off2, View.readCov_unit_zero (S := S1x1) _ off2]

/-- Case B: the encodings. -/
theorem out4_B (hc0 : ¬cond0_0 i) (hc1 : ¬cond0_1 i) (hc2 : cond0_2 i) (hc3 : ¬cond0_3 i)
    (x0 x1 : Vec F S1x1024x64 .f32) (x2 : Vec F S1x1024x1 .f32) (x3 : Vec F S1024x64 .f32) (xs0 : Vec F S1x1024 .f32) (xs1 : Vec F S1x1 .f32) (xs2 : Vec F S64x1024 .f32) (xs3 : Vec F S1x1024 .f32) :
    out0_B_4 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xs0 xs1 xs2 xs3
      = (k0_pay13 x1 x2 xs2 xs3) := by
  unfold out0_B_4
  rw [View.read_writes_eq_canon _ _ _ (cover0_B_4 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xs0 xs1 xs2 xs3)]
  unfold kernelRun0_B
  dsimp only
  sl_unfold_words
  rw [View.canon_cons_unit_zero (S := S1024x1024) off2]
  simp only [View.readAt_eq_ld, harg1.read_unread, harg2.read_unread, harg3.read_unread, harg4.read_unread, harg9.read_unread, harg10.read_unread, harg11.read_unread, harg12.read_unread,
    View.ld_unit_zero (S := S1x1024x64) off3, View.ld_unit_zero (S := S1x1024x1) off3, View.ld_unit_zero (S := S1024x64) off2,
    View.ld_unit_zero (S := S1x1024) off2, View.ld_unit_zero (S := S1x1) off2, View.ld_unit_zero (S := S64x1024) off2,
    View.readCov_unit_zero (S := S64x1024) _ off2, View.readCov_unit_zero (S := S1x1024) _ off2, View.readCov_unit_zero (S := S1x1) _ off2]

/-- Case B: the quantized block. -/
theorem out5_B (hc0 : ¬cond0_0 i) (hc1 : ¬cond0_1 i) (hc2 : cond0_2 i) (hc3 : ¬cond0_3 i)
    (x0 x1 : Vec F S1x1024x64 .f32) (x2 : Vec F S1x1024x1 .f32) (x3 : Vec F S1024x64 .f32) (xs0 : Vec F S1x1024 .f32) (xs1 : Vec F S1x1 .f32) (xs2 : Vec F S64x1024 .f32) (xs3 : Vec F S1x1024 .f32) :
    out0_B_5 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xs0 xs1 xs2 xs3
      = k0_pay15 x0 x1 x2 x3 xs2 xs3 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xs0 xs1 xs2 xs3)]
  unfold kernelRun0_B
  dsimp only
  sl_unfold_words
  rw [View.canon_cons_unit_zero (S := S1x1024x64) off3]
  simp only [View.readAt_eq_ld, harg1.read_unread, harg2.read_unread, harg3.read_unread, harg4.read_unread, harg9.read_unread, harg10.read_unread, harg11.read_unread, harg12.read_unread,
    View.ld_unit_zero (S := S1x1024x64) off3, View.ld_unit_zero (S := S1x1024x1) off3, View.ld_unit_zero (S := S1024x64) off2,
    View.ld_unit_zero (S := S1x1024) off2, View.ld_unit_zero (S := S1x1) off2, View.ld_unit_zero (S := S64x1024) off2,
    View.readCov_unit_zero (S := S64x1024) _ off2, View.readCov_unit_zero (S := S1x1024) _ off2, View.readCov_unit_zero (S := S1x1) _ off2]

/-- Case B: the counts. -/
theorem s0_B (hc0 : ¬cond0_0 i) (hc1 : ¬cond0_1 i) (hc2 : cond0_2 i) (hc3 : ¬cond0_3 i)
    (x0 x1 : Vec F S1x1024x64 .f32) (x2 : Vec F S1x1024x1 .f32) (x3 : Vec F S1024x64 .f32) (xs0 : Vec F S1x1024 .f32) (xs1 : Vec F S1x1 .f32) (xs2 : Vec F S64x1024 .f32) (xs3 : Vec F S1x1024 .f32) :
    sout0_B_0 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xs0 xs1 xs2 xs3
      = (k0_pay5 (k0_pay13 x1 x2 xs2 xs3) xs0) := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xs0 xs1 xs2 xs3)]
  unfold kernelRun0_B
  dsimp only
  sl_unfold_words
  rw [View.canon_cons_unit_zero (S := S1x1024) off2]
  simp only [View.readAt_eq_ld, harg1.read_unread, harg2.read_unread, harg3.read_unread, harg4.read_unread, harg9.read_unread, harg10.read_unread, harg11.read_unread, harg12.read_unread,
    View.ld_unit_zero (S := S1x1024x64) off3, View.ld_unit_zero (S := S1x1024x1) off3, View.ld_unit_zero (S := S1024x64) off2,
    View.ld_unit_zero (S := S1x1024) off2, View.ld_unit_zero (S := S1x1) off2, View.ld_unit_zero (S := S64x1024) off2,
    View.readCov_unit_zero (S := S64x1024) _ off2, View.readCov_unit_zero (S := S1x1024) _ off2, View.readCov_unit_zero (S := S1x1) _ off2]

/-- Case B: the running loss. -/
theorem s1_B (hc0 : ¬cond0_0 i) (hc1 : ¬cond0_1 i) (hc2 : cond0_2 i) (hc3 : ¬cond0_3 i)
    (x0 x1 : Vec F S1x1024x64 .f32) (x2 : Vec F S1x1024x1 .f32) (x3 : Vec F S1024x64 .f32) (xs0 : Vec F S1x1024 .f32) (xs1 : Vec F S1x1 .f32) (xs2 : Vec F S64x1024 .f32) (xs3 : Vec F S1x1024 .f32) :
    sout0_B_1 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xs0 xs1 xs2 xs3
      = fun _ => (k0_pay4 (k0_pay16 x0 x1 x2 x3 xs2 xs3) (xs1 (ix2 0 0))) := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xs0 xs1 xs2 xs3)]
  unfold kernelRun0_B
  dsimp only
  sl_unfold_words
  rw [View.canon_cons_unit_zero (S := S1x1) off2]
  simp only [View.readAt_eq_ld, harg1.read_unread, harg2.read_unread, harg3.read_unread, harg4.read_unread, harg9.read_unread, harg10.read_unread, harg11.read_unread, harg12.read_unread,
    View.ld_unit_zero (S := S1x1024x64) off3, View.ld_unit_zero (S := S1x1024x1) off3, View.ld_unit_zero (S := S1024x64) off2,
    View.ld_unit_zero (S := S1x1024) off2, View.ld_unit_zero (S := S1x1) off2, View.ld_unit_zero (S := S64x1024) off2,
    View.readCov_unit_zero (S := S64x1024) _ off2, View.readCov_unit_zero (S := S1x1024) _ off2, View.readCov_unit_zero (S := S1x1) _ off2]
  exact funext fun _ => congrArg (k0_pay4 _) (ld_one xs1 _)

/-- Case B: the scaled codes. -/
theorem s2_B (hc0 : ¬cond0_0 i) (hc1 : ¬cond0_1 i) (hc2 : cond0_2 i) (hc3 : ¬cond0_3 i)
    (x0 x1 : Vec F S1x1024x64 .f32) (x2 : Vec F S1x1024x1 .f32) (x3 : Vec F S1024x64 .f32) (xs0 : Vec F S1x1024 .f32) (xs1 : Vec F S1x1 .f32) (xs2 : Vec F S64x1024 .f32) (xs3 : Vec F S1x1024 .f32) :
    sout0_B_2 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xs0 xs1 xs2 xs3
      = xs2 := by
  rfl

/-- Case B: the code lengths. -/
theorem s3_B (hc0 : ¬cond0_0 i) (hc1 : ¬cond0_1 i) (hc2 : cond0_2 i) (hc3 : ¬cond0_3 i)
    (x0 x1 : Vec F S1x1024x64 .f32) (x2 : Vec F S1x1024x1 .f32) (x3 : Vec F S1024x64 .f32) (xs0 : Vec F S1x1024 .f32) (xs1 : Vec F S1x1 .f32) (xs2 : Vec F S64x1024 .f32) (xs3 : Vec F S1x1024 .f32) :
    sout0_B_3 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xs0 xs1 xs2 xs3
      = xs3 := by
  rfl

/-- Case C: the encodings. -/
theorem out4_C (hc0 : ¬cond0_0 i) (hc1 : ¬cond0_1 i) (hc2 : cond0_2 i) (hc3 : cond0_3 i)
    (x0 x1 : Vec F S1x1024x64 .f32) (x2 : Vec F S1x1024x1 .f32) (x3 : Vec F S1024x64 .f32) (xs0 : Vec F S1x1024 .f32) (xs1 : Vec F S1x1 .f32) (xs2 : Vec F S64x1024 .f32) (xs3 : Vec F S1x1024 .f32) :
    out0_C_4 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xs0 xs1 xs2 xs3
      = (k0_pay13 x1 x2 xs2 xs3) := by
  unfold out0_C_4
  rw [View.read_writes_eq_canon _ _ _ (cover0_C_4 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xs0 xs1 xs2 xs3)]
  unfold kernelRun0_C
  dsimp only
  sl_unfold_words
  rw [View.canon_cons_unit_zero (S := S1024x1024) off2]
  simp only [View.readAt_eq_ld, harg1.read_unread, harg2.read_unread, harg3.read_unread, harg4.read_unread, harg9.read_unread, harg10.read_unread, harg11.read_unread, harg12.read_unread,
    View.ld_unit_zero (S := S1x1024x64) off3, View.ld_unit_zero (S := S1x1024x1) off3, View.ld_unit_zero (S := S1024x64) off2,
    View.ld_unit_zero (S := S1x1024) off2, View.ld_unit_zero (S := S1x1) off2, View.ld_unit_zero (S := S64x1024) off2,
    View.readCov_unit_zero (S := S64x1024) _ off2, View.readCov_unit_zero (S := S1x1024) _ off2, View.readCov_unit_zero (S := S1x1) _ off2]

/-- Case C: the quantized block. -/
theorem out5_C (hc0 : ¬cond0_0 i) (hc1 : ¬cond0_1 i) (hc2 : cond0_2 i) (hc3 : cond0_3 i)
    (x0 x1 : Vec F S1x1024x64 .f32) (x2 : Vec F S1x1024x1 .f32) (x3 : Vec F S1024x64 .f32) (xs0 : Vec F S1x1024 .f32) (xs1 : Vec F S1x1 .f32) (xs2 : Vec F S64x1024 .f32) (xs3 : Vec F S1x1024 .f32) :
    out0_C_5 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xs0 xs1 xs2 xs3
      = k0_pay15 x0 x1 x2 x3 xs2 xs3 := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xs0 xs1 xs2 xs3)]
  unfold kernelRun0_C
  dsimp only
  sl_unfold_words
  rw [View.canon_cons_unit_zero (S := S1x1024x64) off3]
  simp only [View.readAt_eq_ld, harg1.read_unread, harg2.read_unread, harg3.read_unread, harg4.read_unread, harg9.read_unread, harg10.read_unread, harg11.read_unread, harg12.read_unread,
    View.ld_unit_zero (S := S1x1024x64) off3, View.ld_unit_zero (S := S1x1024x1) off3, View.ld_unit_zero (S := S1024x64) off2,
    View.ld_unit_zero (S := S1x1024) off2, View.ld_unit_zero (S := S1x1) off2, View.ld_unit_zero (S := S64x1024) off2,
    View.readCov_unit_zero (S := S64x1024) _ off2, View.readCov_unit_zero (S := S1x1024) _ off2, View.readCov_unit_zero (S := S1x1) _ off2]

/-- Case C: the counts. -/
theorem s0_C (hc0 : ¬cond0_0 i) (hc1 : ¬cond0_1 i) (hc2 : cond0_2 i) (hc3 : cond0_3 i)
    (x0 x1 : Vec F S1x1024x64 .f32) (x2 : Vec F S1x1024x1 .f32) (x3 : Vec F S1024x64 .f32) (xs0 : Vec F S1x1024 .f32) (xs1 : Vec F S1x1 .f32) (xs2 : Vec F S64x1024 .f32) (xs3 : Vec F S1x1024 .f32) :
    sout0_C_0 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xs0 xs1 xs2 xs3
      = (k0_pay5 (k0_pay13 x1 x2 xs2 xs3) xs0) := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xs0 xs1 xs2 xs3)]
  unfold kernelRun0_C
  dsimp only
  sl_unfold_words
  rw [View.canon_cons_unit_zero (S := S1x1024) off2]
  simp only [View.readAt_eq_ld, harg1.read_unread, harg2.read_unread, harg3.read_unread, harg4.read_unread, harg9.read_unread, harg10.read_unread, harg11.read_unread, harg12.read_unread,
    View.ld_unit_zero (S := S1x1024x64) off3, View.ld_unit_zero (S := S1x1024x1) off3, View.ld_unit_zero (S := S1024x64) off2,
    View.ld_unit_zero (S := S1x1024) off2, View.ld_unit_zero (S := S1x1) off2, View.ld_unit_zero (S := S64x1024) off2,
    View.readCov_unit_zero (S := S64x1024) _ off2, View.readCov_unit_zero (S := S1x1024) _ off2, View.readCov_unit_zero (S := S1x1) _ off2]

/-- Case C: the running loss. -/
theorem s1_C (hc0 : ¬cond0_0 i) (hc1 : ¬cond0_1 i) (hc2 : cond0_2 i) (hc3 : cond0_3 i)
    (x0 x1 : Vec F S1x1024x64 .f32) (x2 : Vec F S1x1024x1 .f32) (x3 : Vec F S1024x64 .f32) (xs0 : Vec F S1x1024 .f32) (xs1 : Vec F S1x1 .f32) (xs2 : Vec F S64x1024 .f32) (xs3 : Vec F S1x1024 .f32) :
    sout0_C_1 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xs0 xs1 xs2 xs3
      = fun _ => (k0_pay4 (k0_pay16 x0 x1 x2 x3 xs2 xs3) (xs1 (ix2 0 0))) := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xs0 xs1 xs2 xs3)]
  unfold kernelRun0_C
  dsimp only
  sl_unfold_words
  rw [View.canon_cons_unit_zero (S := S1x1) off2]
  simp only [View.readAt_eq_ld, harg1.read_unread, harg2.read_unread, harg3.read_unread, harg4.read_unread, harg9.read_unread, harg10.read_unread, harg11.read_unread, harg12.read_unread,
    View.ld_unit_zero (S := S1x1024x64) off3, View.ld_unit_zero (S := S1x1024x1) off3, View.ld_unit_zero (S := S1024x64) off2,
    View.ld_unit_zero (S := S1x1024) off2, View.ld_unit_zero (S := S1x1) off2, View.ld_unit_zero (S := S64x1024) off2,
    View.readCov_unit_zero (S := S64x1024) _ off2, View.readCov_unit_zero (S := S1x1024) _ off2, View.readCov_unit_zero (S := S1x1) _ off2]
  exact funext fun _ => congrArg (k0_pay4 _) (ld_one xs1 _)

/-- Case C: the scaled codes. -/
theorem s2_C (hc0 : ¬cond0_0 i) (hc1 : ¬cond0_1 i) (hc2 : cond0_2 i) (hc3 : cond0_3 i)
    (x0 x1 : Vec F S1x1024x64 .f32) (x2 : Vec F S1x1024x1 .f32) (x3 : Vec F S1024x64 .f32) (xs0 : Vec F S1x1024 .f32) (xs1 : Vec F S1x1 .f32) (xs2 : Vec F S64x1024 .f32) (xs3 : Vec F S1x1024 .f32) :
    sout0_C_2 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xs0 xs1 xs2 xs3
      = xs2 := by
  rfl

/-- Case C: the code lengths. -/
theorem s3_C (hc0 : ¬cond0_0 i) (hc1 : ¬cond0_1 i) (hc2 : cond0_2 i) (hc3 : cond0_3 i)
    (x0 x1 : Vec F S1x1024x64 .f32) (x2 : Vec F S1x1024x1 .f32) (x3 : Vec F S1024x64 .f32) (xs0 : Vec F S1x1024 .f32) (xs1 : Vec F S1x1 .f32) (xs2 : Vec F S64x1024 .f32) (xs3 : Vec F S1x1024 .f32) :
    sout0_C_3 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xs0 xs1 xs2 xs3
      = xs3 := by
  rfl

/-- Case C: the loss. -/
theorem out6_C (hc0 : ¬cond0_0 i) (hc1 : ¬cond0_1 i) (hc2 : cond0_2 i) (hc3 : cond0_3 i)
    (x0 x1 : Vec F S1x1024x64 .f32) (x2 : Vec F S1x1024x1 .f32) (x3 : Vec F S1024x64 .f32) (xs0 : Vec F S1x1024 .f32) (xs1 : Vec F S1x1 .f32) (xs2 : Vec F S64x1024 .f32) (xs3 : Vec F S1x1024 .f32) :
    out0_C_6 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xs0 xs1 xs2 xs3
      = fun _ => k0_pay6 (k0_pay4 (k0_pay16 x0 x1 x2 x3 xs2 xs3) (xs1 (ix2 0 0))) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xs0 xs1 xs2 xs3)]
  unfold kernelRun0_C
  dsimp only
  sl_unfold_words
  rw [View.canon_cons_unit_zero (S := S1x1) off2]
  simp only [View.readAt_eq_ld, harg1.read_unread, harg2.read_unread, harg3.read_unread, harg4.read_unread, harg9.read_unread, harg10.read_unread, harg11.read_unread, harg12.read_unread,
    View.ld_unit_zero (S := S1x1024x64) off3, View.ld_unit_zero (S := S1x1024x1) off3, View.ld_unit_zero (S := S1024x64) off2,
    View.ld_unit_zero (S := S1x1024) off2, View.ld_unit_zero (S := S1x1) off2, View.ld_unit_zero (S := S64x1024) off2,
    View.readCov_unit_zero (S := S64x1024) _ off2, View.readCov_unit_zero (S := S1x1024) _ off2, View.readCov_unit_zero (S := S1x1) _ off2]
  exact funext fun _ => congrArg (fun z => k0_pay6 (k0_pay4 _ z)) (ld_one xs1 _)

/-- Case C: the perplexity. -/
theorem out7_C (hc0 : ¬cond0_0 i) (hc1 : ¬cond0_1 i) (hc2 : cond0_2 i) (hc3 : cond0_3 i)
    (x0 x1 : Vec F S1x1024x64 .f32) (x2 : Vec F S1x1024x1 .f32) (x3 : Vec F S1024x64 .f32) (xs0 : Vec F S1x1024 .f32) (xs1 : Vec F S1x1 .f32) (xs2 : Vec F S64x1024 .f32) (xs3 : Vec F S1x1024 .f32) :
    out0_C_7 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xs0 xs1 xs2 xs3
      = fun _ => k0_pay7 (k0_pay5 (k0_pay13 x1 x2 xs2 xs3) xs0) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 xs0 xs1 xs2 xs3)]
  unfold kernelRun0_C
  dsimp only
  sl_unfold_words
  rw [View.canon_cons_unit_zero (S := S1x1) off2]
  simp only [View.readAt_eq_ld, harg1.read_unread, harg2.read_unread, harg3.read_unread, harg4.read_unread, harg9.read_unread, harg10.read_unread, harg11.read_unread, harg12.read_unread,
    View.ld_unit_zero (S := S1x1024x64) off3, View.ld_unit_zero (S := S1x1024x1) off3, View.ld_unit_zero (S := S1024x64) off2,
    View.ld_unit_zero (S := S1x1024) off2, View.ld_unit_zero (S := S1x1) off2, View.ld_unit_zero (S := S64x1024) off2,
    View.readCov_unit_zero (S := S64x1024) _ off2, View.readCov_unit_zero (S := S1x1024) _ off2, View.readCov_unit_zero (S := S1x1) _ off2]
  rfl

end Cert.Vq.Body

end
-- ==== Proof.Fold.lean ====
/- What the kernel's buffers hold at every grid point, by induction on the point: the two codebook scratches stay what
   the first point put there, the counts and the loss accumulate, and each output block is one stored value of the
   point's input blocks. -/
module

public import proofs.«01_k».proof.Proof.Body

@[expose] public section

set_option maxRecDepth 16384

noncomputable section

namespace Cert.Vq.Fold

open Cert.KernelIdeal Cert.KernelIdeal.Gen Cert.Vq.Body
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (c : Dev nD)

/-- The grid has sixteen points. -/
theorem points : cfg0.N = 16 := N_0

/-- The codebook, as the region's fourth window holds it at a point. -/
abbrev cb (t : Fin cfg0.N) : Vec F S1024x64 .f32 := iblk m c 3 t

/-- The fourth window's block is the whole codebook, at every point. -/
theorem cb_eq (t : Fin cfg0.N) : cb m c t = V m c main_arg1 := by
  funext j
  show (((cfg0.win 3).blk t).view.read (Elt F) (V m c (Pipeline.arrRef spec0 3))) j = _
  rw [View.read_apply]
  show V m c main_arg1 _ = _
  congr 1
  funext a
  apply Fin.ext
  match a with
  | ⟨0, _⟩ => exact (Nat.zero_add _).trans (Nat.one_mul _)
  | ⟨1, _⟩ => exact (Nat.zero_add _).trans (Nat.one_mul _)

/-- The codebook the region finds. -/
abbrev book : Vec F S1024x64 .f32 := V m c main_arg1

/-- The first codebook scratch: the normalised codes, transposed, times −2. -/
abbrev codes2 : Vec F S64x1024 .f32 := k0_pay9 (book m c)
/-- The second codebook scratch: the squared lengths of the normalised codes. -/
abbrev lens : Vec F S1x1024 .f32 := k0_pay12 (k0_pay10 (book m c))

/-- The encodings a point stores. -/
def encAt (t : Fin cfg0.N) : Vec F S1024x1024 .f32 :=
  k0_pay13 (iblk m c 1 t) (iblk m c 2 t) (codes2 m c) (lens m c)
/-- The quantized block a point stores. -/
def quantAt (t : Fin cfg0.N) : Vec F S1x1024x64 .f32 :=
  k0_pay15 (iblk m c 0 t) (iblk m c 1 t) (iblk m c 2 t) (book m c) (codes2 m c) (lens m c)
/-- The difference of the quantized block and the input, whose squares are summed. -/
def diffAt (t : Fin cfg0.N) : FVec F S1024x64 .f32 :=
  k0_pay16 (iblk m c 0 t) (iblk m c 1 t) (iblk m c 2 t) (book m c) (codes2 m c) (lens m c)

/-- The counts after a point. -/
def cntAt : (n : ℕ) → n < cfg0.N → Vec F S1x1024 .f32
  | 0, h => k0_pay3 (encAt m c ⟨0, h⟩)
  | n + 1, h => k0_pay5 (encAt m c ⟨n + 1, h⟩) (cntAt n (Nat.lt_of_succ_lt h))
/-- The running loss after a point. -/
def lossAt : (n : ℕ) → n < cfg0.N → F .f32
  | 0, h => k0_pay1 (diffAt m c ⟨0, h⟩)
  | n + 1, h => k0_pay4 (diffAt m c ⟨n + 1, h⟩) (lossAt n (Nat.lt_of_succ_lt h))

/-- What a point leaves: both stored blocks, the accumulators and the codebook scratches. -/
structure Leaves (n : ℕ) (h : n < cfg0.N) : Prop where
  enc : (outsAt0 m c n h).1 = encAt m c ⟨n, h⟩
  quant : (outsAt0 m c n h).2.1 = quantAt m c ⟨n, h⟩
  cnt : (outsAt0 m c n h).2.2.2.2.1 = cntAt m c n h
  loss : (outsAt0 m c n h).2.2.2.2.2.1 = fun _ => lossAt m c n h
  codes : (outsAt0 m c n h).2.2.2.2.2.2.1 = codes2 m c
  len : (outsAt0 m c n h).2.2.2.2.2.2.2 = lens m c

/-- The first point's leavings. -/
theorem leaves_first (h : 0 < cfg0.N) : Leaves m c 0 h := by
  have e := outsAt0_A m c ⟨0, h⟩ (Nat.zero_mod _) (Nat.zero_mod _) (fun h => Nat.not_succ_le_zero 0 h) (fun h => by dsimp only at h; omega)
  have hc := cb_eq m c ⟨0, h⟩
  dsimp only at e
  constructor
  · rw [e]; dsimp only; rw [out4_A]; exact congrArg (fun w => k0_pay13 _ _ (k0_pay9 w) (k0_pay12 (k0_pay10 w))) hc
  · rw [e]; dsimp only; rw [out5_A]; exact congrArg (fun w => k0_pay15 _ _ _ w (k0_pay9 w) (k0_pay12 (k0_pay10 w))) hc
  · rw [e]; dsimp only; rw [s0_A]; exact congrArg (fun w => k0_pay3 (k0_pay13 _ _ (k0_pay9 w) (k0_pay12 (k0_pay10 w)))) hc
  · rw [e]; dsimp only; rw [s1_A]
    exact congrArg (fun w => fun _ => k0_pay1 (k0_pay16 _ _ _ w (k0_pay9 w) (k0_pay12 (k0_pay10 w)))) hc
  · rw [e]; dsimp only; rw [s2_A]; exact congrArg k0_pay9 hc
  · rw [e]; dsimp only; rw [s3_A]; exact congrArg (fun w => k0_pay12 (k0_pay10 w)) hc

/-- A later point's, over the point before. -/
theorem leaves_next (n : ℕ) (h : n + 1 < cfg0.N) (p : Leaves m c n (Nat.lt_of_succ_lt h)) : Leaves m c (n + 1) h := by
  have hN : n + 1 < 16 := lt_of_lt_of_eq h points
  have hc := cb_eq m c ⟨n + 1, h⟩
  obtain ⟨-, -, p0, p1, p2, p3⟩ := p
  by_cases h15 : (n + 1) % 16 = 15
  · have e := outsAt0_C m c ⟨n + 1, h⟩ (by dsimp only; omega) (by dsimp only; omega) (by dsimp only; omega) (by dsimp only; omega)
    dsimp only [Nat.add_sub_cancel] at e
    constructor
    · rw [e]; dsimp only; rw [out4_C]; exact congrArg₂ (fun u v => k0_pay13 _ _ u v) p2 p3
    · rw [e]; dsimp only; rw [out5_C]
      refine (congrArg₂ (fun u v => k0_pay15 _ _ _ _ u v) p2 p3).trans ?_
      exact congrArg (fun w => k0_pay15 _ _ _ w _ _) hc
    · rw [e]; dsimp only; rw [s0_C]
      exact (congrArg₂ (fun u v => k0_pay5 (k0_pay13 _ _ u v) _) p2 p3).trans (congrArg (k0_pay5 _) p0)
    · rw [e]; dsimp only; rw [s1_C]
      refine (congrArg₂ (fun u v => fun _ => k0_pay4 (k0_pay16 _ _ _ _ u v) _) p2 p3).trans ?_
      refine (congrArg (fun w => fun _ => k0_pay4 (k0_pay16 _ _ _ w _ _) _) hc).trans ?_
      exact congrArg (fun z : Vec F S1x1 .f32 => fun _ => k0_pay4 _ (z (ix2 0 0))) p1
    · rw [e]; dsimp only; rw [s2_C]; exact p2
    · rw [e]; dsimp only; rw [s3_C]; exact p3
  · have e := outsAt0_B m c ⟨n + 1, h⟩ (by dsimp only; omega) (by dsimp only; omega) (by dsimp only; omega) (by dsimp only; omega)
    dsimp only [Nat.add_sub_cancel] at e
    constructor
    · rw [e]; dsimp only; rw [out4_B]; exact congrArg₂ (fun u v => k0_pay13 _ _ u v) p2 p3
    · rw [e]; dsimp only; rw [out5_B]
      refine (congrArg₂ (fun u v => k0_pay15 _ _ _ _ u v) p2 p3).trans ?_
      exact congrArg (fun w => k0_pay15 _ _ _ w _ _) hc
    · rw [e]; dsimp only; rw [s0_B]
      exact (congrArg₂ (fun u v => k0_pay5 (k0_pay13 _ _ u v) _) p2 p3).trans (congrArg (k0_pay5 _) p0)
    · rw [e]; dsimp only; rw [s1_B]
      refine (congrArg₂ (fun u v => fun _ => k0_pay4 (k0_pay16 _ _ _ _ u v) _) p2 p3).trans ?_
      refine (congrArg (fun w => fun _ => k0_pay4 (k0_pay16 _ _ _ w _ _) _) hc).trans ?_
      exact congrArg (fun z : Vec F S1x1 .f32 => fun _ => k0_pay4 _ (z (ix2 0 0))) p1
    · rw [e]; dsimp only; rw [s2_B]; exact p2
    · rw [e]; dsimp only; rw [s3_B]; exact p3

/-- Every point's leavings. -/
theorem leaves : ∀ (n : ℕ) (h : n < cfg0.N), Leaves m c n h
  | 0, h => leaves_first m c h
  | n + 1, h => leaves_next m c n h (leaves n (Nat.lt_of_succ_lt h))

/-- The last point. -/
abbrev last : Fin cfg0.N := ⟨15, by rw [points]; omega⟩

/-- The loss the last point stores. -/
theorem last_loss : (outsAt0 m c 15 last.isLt).2.2.1 = fun _ => k0_pay6 (lossAt m c 15 last.isLt) := by
  have e := outsAt0_C m c last (by decide) (by decide) (by decide) (by decide)
  have hc := cb_eq m c last
  obtain ⟨-, -, p0, p1, p2, p3⟩ := leaves m c 14 (by rw [points]; omega)
  dsimp only [Nat.reduceSub] at e
  rw [e]; dsimp only; rw [out6_C]
  refine (congrArg₂ (fun u v => fun _ => k0_pay6 (k0_pay4 (k0_pay16 _ _ _ _ u v) _)) p2 p3).trans ?_
  refine (congrArg (fun w => fun _ => k0_pay6 (k0_pay4 (k0_pay16 _ _ _ w _ _) _)) hc).trans ?_
  exact congrArg (fun z : Vec F S1x1 .f32 => fun _ => k0_pay6 (k0_pay4 _ (z (ix2 0 0)))) p1

/-- The perplexity the last point stores. -/
theorem last_perp : (outsAt0 m c 15 last.isLt).2.2.2.1 = fun _ => k0_pay7 (cntAt m c 15 last.isLt) := by
  have e := outsAt0_C m c last (by decide) (by decide) (by decide) (by decide)
  obtain ⟨-, -, p0, p1, p2, p3⟩ := leaves m c 14 (by rw [points]; omega)
  dsimp only [Nat.reduceSub] at e
  rw [e]; dsimp only; rw [out7_C]
  refine (congrArg₂ (fun u v => fun _ => k0_pay7 (k0_pay5 (k0_pay13 _ _ u v) _)) p2 p3).trans ?_
  exact congrArg (fun z => fun _ => k0_pay7 (k0_pay5 _ z)) p0

end Cert.Vq.Fold

end
-- ==== Proof.Arrays.lean ====
/- The kernel's run, read: the two block arrays as what each point stored, the two words as what the last point stored,
   and the results that the operations after the region make of them. -/
module

public import proofs.«01_k».proof.Proof.Fold
public import Idealize.ShloMosaic.Lib.StableHlo.Run

@[expose] public section

set_option maxRecDepth 16384

noncomputable section

namespace Cert.Vq.Arrays

open Cert.KernelIdeal Cert.KernelIdeal.Gen Cert.Vq.Fold
open Idealize.ShloMosaic Idealize.ShloMosaic.TcCoe Idealize.ShloMosaic.ValueIdx Idealize.SL.Sem Idealize.ShloMosaic.StableHlo
open Idealize.ShloMosaic.Pipeline (Dat)

variable {F : FTy → Type} [FloatOps F]
variable (m : (ℓ : Loc nD τ sig) → Buf (Elt F) ℓ) (c : Dev nD)

/-- The encodings' array after the run: row `1024 b + r` is row `r` of what point `b` stored. -/
def encs : Vec F S16384x1024 .f32 := fun i =>
  encAt m c ⟨(i 0).val / 1024, by have : (i 0).val < 16384 := (i 0).isLt; rw [points]; omega⟩ (ix2 ⟨(i 0).val % 1024, Nat.mod_lt _ (by omega)⟩ (i 1))
/-- The quantized array after the run: block `b` is what point `b` stored. -/
def quants : Vec F S16x1024x64 .f32 := fun i =>
  quantAt m c ⟨(i 0).val, by have : (i 0).val < 16 := (i 0).isLt; rw [points]; omega⟩ (ix3 0 (i 1) (i 2))
/-- The loss word. -/
def lossWord : Vec F S1x1 .f32 := fun _ => k0_pay6 (lossAt m c 15 last.isLt)
/-- The perplexity word. -/
def perpWord : Vec F S1x1 .f32 := fun _ => k0_pay7 (cntAt m c 15 last.isLt)

theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 ∧ win0_5.index t 2 = 0 :=
  (by decide +kernel : ∀ t : Fin grid0.N, win0_5.index t 0 = t.val ∧ win0_5.index t 1 = 0 ∧ win0_5.index t 2 = 0)

theorem encAt_congr {t t' : Fin cfg0.N} (h : t = t') {i i' : S1024x1024.Idx} (hi : i = i') : encAt m c t i = encAt m c t' i' := by
  subst h; subst hi; rfl
theorem quantAt_congr {t t' : Fin cfg0.N} (h : t = t') {i i' : S1x1024x64.Idx} (hi : i = i') : quantAt m c t i = quantAt m c t' i' := by
  subst h; subst hi; rfl

/-- What a point writes back to the encodings' array is its block of `encs`. -/
theorem flushed4 (t : Fin cfg0.N) : (dats m 0 c).flushed 4 t = ((cfg0.win 4).blk t).view.read (Elt F) (encs m c) := by
  show (cfg0.win 4).cut (grid0.coords t) ((dats m 0 c).after 4 t) = _
  rw [after0_4, (leaves m c t.val t.isLt).enc]
  funext j
  rw [View.read_apply]
  have hi := index4 t
  have h0 : (j 0).val < 1024 := (j 0).isLt
  refine encAt_congr m c (Fin.ext ?_) (funext fun a => Fin.ext ?_)
  · show t.val = (win0_4.index t 0 * 1024 + 1 * (j 0).val) / 1024
    rw [hi.1]; omega
  · match a with
    | ⟨0, _⟩ => show (j 0).val = (win0_4.index t 0 * 1024 + 1 * (j 0).val) % 1024; rw [hi.1]; omega
    | ⟨1, _⟩ => show (j 1).val = win0_4.index t 1 * 1024 + 1 * (j 1).val; rw [hi.2]; omega

/-- What a point writes back to the quantized array is its block of `quants`. -/
theorem flushed5 (t : Fin cfg0.N) : (dats m 0 c).flushed 5 t = ((cfg0.win 5).blk t).view.read (Elt F) (quants m c) := by
  show (cfg0.win 5).cut (grid0.coords t) ((dats m 0 c).after 5 t) = _
  rw [after0_5, (leaves m c t.val t.isLt).quant]
  funext j
  rw [View.read_apply]
  have hi := index5 t
  have h0 : (j 0).val < 1 := (j 0).isLt
  refine quantAt_congr m c (Fin.ext ?_) (funext fun a => Fin.ext ?_)
  · show t.val = win0_5.index t 0 * 1 + 1 * (j 0).val
    rw [hi.1]; omega
  · match a with
    | ⟨0, _⟩ => show (j 0).val = 0; omega
    | ⟨1, _⟩ => show (j 1).val = win0_5.index t 1 * 1024 + 1 * (j 1).val; rw [hi.2.1]; omega
    | ⟨2, _⟩ => show (j 2).val = win0_5.index t 2 * 64 + 1 * (j 2).val; rw [hi.2.2]; omega

theorem flushed6 (t : Fin cfg0.N) (hf : (cfg0.win 6).flush t = true) :
    (dats m 0 c).flushed 6 t = ((cfg0.win 6).blk t).view.read (Elt F) (lossWord m c) := by
  have ht : t = last := Fin.ext (by have := (flush0_6 t).mp hf; have h2 : t.val < 16 := lt_of_lt_of_eq t.isLt points; show t.val = 15; omega)
  subst ht
  show (cfg0.win 6).cut (grid0.coords last) ((dats m 0 c).after 6 last) = _
  rw [after0_6]
  rw [show (outsAt0 m c last.val last.isLt).2.2.1 = _ from last_loss m c]
  rfl

theorem flushed7 (t : Fin cfg0.N) (hf : (cfg0.win 7).flush t = true) :
    (dats m 0 c).flushed 7 t = ((cfg0.win 7).blk t).view.read (Elt F) (perpWord m c) := by
  have ht : t = last := Fin.ext (by have := (flush0_7 t).mp hf; have h2 : t.val < 16 := lt_of_lt_of_eq t.isLt points; show t.val = 15; omega)
  subst ht
  show (cfg0.win 7).cut (grid0.coords last) ((dats m 0 c).after 7 last) = _
  rw [after0_7]
  rw [show (outsAt0 m c last.val last.isLt).2.2.2.1 = _ from last_perp m c]
  rfl

/-- The encodings' array after the run. -/
theorem final4 : (dats m 0 c).arrAt 4 cfg0.N = encs m c :=
  (dats m 0 c).arrAt_eq_of_cover 4 (encs m c) (fun t _ => flushed4 m c t) fun i => by
    have h0 : (i 0).val < 16384 := (i 0).isLt
    have h1 : (i 1).val < 1024 := (i 1).isLt
    have hb : (i 0).val / 1024 < cfg0.N := by rw [points]; omega
    refine ⟨⟨(i 0).val / 1024, hb⟩, flush0_4 _, ?_⟩
    have hi := index4 ⟨(i 0).val / 1024, hb⟩
    show i ∈ ((View.whole main_v13_0).slice (win0_4.rect ⟨(i 0).val / 1024, hb⟩)).set
    rw [View.set_slice_whole, Rect.mem_set_unit]
    intro a
    match a with
    | ⟨0, _⟩ => show win0_4.index ⟨(i 0).val / 1024, hb⟩ 0 * 1024 ≤ (i 0).val ∧ (i 0).val < win0_4.index ⟨(i 0).val / 1024, hb⟩ 0 * 1024 + 1024
                rw [hi.1]; dsimp only; omega
    | ⟨1, _⟩ => show win0_4.index ⟨(i 0).val / 1024, hb⟩ 1 * 1024 ≤ (i 1).val ∧ (i 1).val < win0_4.index ⟨(i 0).val / 1024, hb⟩ 1 * 1024 + 1024
                rw [hi.2]; omega

/-- The quantized array after the run. -/
theorem final5 : (dats m 0 c).arrAt 5 cfg0.N = quants m c :=
  (dats m 0 c).arrAt_eq_of_cover 5 (quants m c) (fun t _ => flushed5 m c t) fun i => by
    have h0 : (i 0).val < 16 := (i 0).isLt
    have h1 : (i 1).val < 1024 := (i 1).isLt
    have h2 : (i 2).val < 64 := (i 2).isLt
    have hb : (i 0).val < cfg0.N := by rw [points]; omega
    refine ⟨⟨(i 0).val, hb⟩, flush0_5 _, ?_⟩
    have hi := index5 ⟨(i 0).val, hb⟩
    show i ∈ ((View.whole main_v13_1).slice (win0_5.rect ⟨(i 0).val, hb⟩)).set
    rw [View.set_slice_whole, Rect.mem_set_unit]
    intro a
    match a with
    | ⟨0, _⟩ => show win0_5.index ⟨(i 0).val, hb⟩ 0 * 1 ≤ (i 0).val ∧ (i 0).val < win0_5.index ⟨(i 0).val, hb⟩ 0 * 1 + 1
                rw [hi.1]; dsimp only; omega
    | ⟨1, _⟩ => show win0_5.index ⟨(i 0).val, hb⟩ 1 * 1024 ≤ (i 1).val ∧ (i 1).val < win0_5.index ⟨(i 0).val, hb⟩ 1 * 1024 + 1024
                rw [hi.2.1]; omega
    | ⟨2, _⟩ => show win0_5.index ⟨(i 0).val, hb⟩ 2 * 64 ≤ (i 2).val ∧ (i 2).val < win0_5.index ⟨(i 0).val, hb⟩ 2 * 64 + 64
                rw [hi.2.2]; omega

/-- The loss word after the run. -/
theorem final6 : (dats m 0 c).arrAt 6 cfg0.N = lossWord m c :=
  (dats m 0 c).arrAt_eq_of_cover 6 (lossWord m c) (flushed6 m c) fun i => ⟨last, (flush0_6 last).mpr rfl, by
    show i ∈ ((View.whole main_v13_2).slice (win0_6.rect last)).set
    rw [View.set_slice_whole, Rect.mem_set_unit]
    have h0 : (i 0).val < 1 := (i 0).isLt
    have h1 : (i 1).val < 1 := (i 1).isLt
    intro a
    match a with
    | ⟨0, _⟩ => show 0 ≤ (i 0).val ∧ (i 0).val < 1; omega
    | ⟨1, _⟩ => show 0 ≤ (i 1).val ∧ (i 1).val < 1; omega⟩

/-- The perplexity word after the run. -/
theorem final7 : (dats m 0 c).arrAt 7 cfg0.N = perpWord m c :=
  (dats m 0 c).arrAt_eq_of_cover 7 (perpWord m c) (flushed7 m c) fun i => ⟨last, (flush0_7 last).mpr rfl, by
    show i ∈ ((View.whole main_v13_3).slice (win0_7.rect last)).set
    rw [View.set_slice_whole, Rect.mem_set_unit]
    have h0 : (i 0).val < 1 := (i 0).isLt
    have h1 : (i 1).val < 1 := (i 1).isLt
    intro a
    match a with
    | ⟨0, _⟩ => show 0 ≤ (i 0).val ∧ (i 0).val < 1; omega
    | ⟨1, _⟩ => show 0 ≤ (i 1).val ∧ (i 1).val < 1; omega⟩

/-- The quantized result: the quantized array, its two last axes exchanged, in the argument's shape. -/
def quantOut : Vec F S16x64x32x32 .f32 :=
  shapeCast S16x64x32x32 (transpose S16x64x1024 [0, 2, 1] (quants m c) transposes_S16x1024x64_S16x64x1024_0_2_1) shapeCasts_S16x64x1024_S16x64x32x32
/-- The loss result. -/
def lossOut : Vec F S_ .f32 := shapeCast S_ (lossWord m c) shapeCasts_S1x1_S_
/-- The perplexity result. -/
def perpOut : Vec F S_ .f32 := shapeCast S_ (perpWord m c) shapeCasts_S1x1_S_

/-- The windows' arrays are different buffers. -/
theorem arr_inj : Function.Injective (Pipeline.arrRef spec0) := by decide

theorem tail_quant : Pipeline.afterTail₀ cfgs (dats m) 0 (V0 m) [hostOps1] c main_v15 = quantOut m c := by
  unfold Pipeline.afterTail₀
  simp only [List.flatten_cons, List.flatten_nil, List.append_nil, hostOps1]
  after_results_simp
  unfold quantOut
  rw [← final5]
  have e := Pipeline.withArrays_arr spec0 arr_inj c (V0 m c) (fun w => (dats m 0 c).arrAt w cfg0.N) 5
  exact congrArg (fun z => shapeCast S16x64x32x32 (transpose S16x64x1024 [0, 2, 1] z transposes_S16x1024x64_S16x64x1024_0_2_1) shapeCasts_S16x64x1024_S16x64x32x32) e

theorem tail_loss : Pipeline.afterTail₀ cfgs (dats m) 0 (V0 m) [hostOps1] c main_v16 = lossOut m c := by
  unfold Pipeline.afterTail₀
  simp only [List.flatten_cons, List.flatten_nil, List.append_nil, hostOps1]
  after_results_simp
  unfold lossOut
  rw [← final6]
  have e := Pipeline.withArrays_arr spec0 arr_inj c (V0 m c) (fun w => (dats m 0 c).arrAt w cfg0.N) 6
  exact congrArg (fun z => shapeCast S_ z shapeCasts_S1x1_S_) e

theorem tail_perp : Pipeline.afterTail₀ cfgs (dats m) 0 (V0 m) [hostOps1] c main_v17 = perpOut m c := by
  unfold Pipeline.afterTail₀
  simp only [List.flatten_cons, List.flatten_nil, List.append_nil, hostOps1]
  after_results_simp
  unfold perpOut
  rw [← final7]
  have e := Pipeline.withArrays_arr spec0 arr_inj c (V0 m c) (fun w => (dats m 0 c).arrAt w cfg0.N) 7
  exact congrArg (fun z => shapeCast S_ z shapeCasts_S1x1_S_) e

/-- Every weakly fair execution of the kernel ends, with each result as named and the arguments unchanged. -/
theorem run (ρ : Dev nD → PrngReg) : θ_run defs (onTc (τ := τ) (main (F := F))) ⟨m, fun _ => 0, ρ⟩ fun r => ∀ c : Dev nD,
      r.2.mem ((c.tc : Thread nD τ).loc main_v15) = quantOut m c
      ∧ r.2.mem ((c.tc : Thread nD τ).loc main_v16) = lossOut m c
      ∧ r.2.mem ((c.tc : Thread nD τ).loc main_v17) = perpOut m c
      ∧ r.2.mem ((c.tc : Thread nD τ).loc main_v13_0) = encs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨
      ((h c).2 main_v15 (Pipeline.mem_restRefs_of main_v15 (by decide) (by decide))).trans (tail_quant m c),
      ((h c).2 main_v16 (Pipeline.mem_restRefs_of main_v16 (by decide) (by decide))).trans (tail_loss m c),
      ((h c).2 main_v17 (Pipeline.mem_restRefs_of main_v17 (by decide) (by decide))).trans (tail_perp m c),
      ((h c).1 4).trans (final4 m c),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Vq.Arrays

end
-- ==== Proof.Entry.lean ====
/- What the kernel's region finds in its three token arrays: the tokens, the normalised tokens and their squared
   lengths, each in blocks, as the reference's own stages of the same argument. -/
module

public import proofs.«01_k».proof.Proof.Gen.KernelIdeal.Frame
public import proofs.«01_k».proof.Proof.RefRun
public import Idealize.ShloMosaic.Lib.StableHlo.Run

@[expose] public section

noncomputable section

namespace Cert.Vq.Entry

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

/-- The tokens' array as launched. -/
abbrev argX : Vec F S16x64x32x32 .f32 := m ((c.tc : Thread nD τ).loc main_arg0)
/-- The codebook as launched. -/
abbrev argW : Vec F S1024x64 .f32 := m ((c.tc : Thread nD τ).loc main_arg1)

set_option maxHeartbeats 2000000 in
/-- The tokens, in blocks. -/
theorem tokens : V m c main_v10 = shapeCast S16x1024x64 (Ref.flat (argX m c)) shapeCasts_S16384x64_S16x1024x64 := by
  unfold V V0
  simp only [List.flatten_cons, List.flatten_nil, List.append_nil, List.cons_append, List.nil_append, hostOps0, hostOps0_1, hostOps0_2,
    TRef.binary, TRef.nullary, TRef.unary, TRef.toBuf, TRef.ofBuf, cast_eq]
  after_results_simp <;> rfl

set_option maxHeartbeats 2000000 in
/-- The normalised tokens, in blocks. -/
theorem normed : V m c main_v11 = shapeCast S16x1024x64 (Ref.tok (argX m c)) shapeCasts_S16384x64_S16x1024x64 := by
  unfold V V0
  simp only [List.flatten_cons, List.flatten_nil, List.append_nil, List.cons_append, List.nil_append, hostOps0, hostOps0_1, hostOps0_2,
    TRef.binary, TRef.nullary, TRef.unary, TRef.toBuf, TRef.ofBuf, cast_eq]
  after_results_simp <;> rfl

set_option maxHeartbeats 2000000 in
/-- Their squared lengths, in blocks. -/
theorem lengths : V m c main_v12 = shapeCast S16x1024x1 (broadcastInDim S16384x1 ![0] bcast_S16384_S16384x1_0 (Ref.tokSq (argX m c)))
    shapeCasts_S16384x1_S16x1024x1 := by
  unfold V V0
  simp only [List.flatten_cons, List.flatten_nil, List.append_nil, List.cons_append, List.nil_append, hostOps0, hostOps0_1, hostOps0_2,
    TRef.binary, TRef.nullary, TRef.unary, TRef.toBuf, TRef.ofBuf, cast_eq]
  after_results_simp <;> rfl

end Cert.Vq.Entry

end
-- ==== Proof.Reads.lean ====
/- Operations on matrices read at a row and a column, at the exact values: sums along an axis, and the broadcasts of a
   column, of a row and of a vector. The extents are variables. -/
module

public import Idealize.ShloMosaic.Lib.ValueIdx
public import Idealize.ShloMosaic.Lib.IdealHost
public import Idealize.ShloMosaic.Lib.MatmulPlain
public import Idealize.ShloMosaic.Lib.StackMember
public import Idealize.ShloMosaic.Lib.Pipeline.Value

@[expose] public section

noncomputable section

namespace Cert.Vq.Reads

open Idealize.ShloMosaic Idealize.ShloMosaic.TcCoe Idealize.ShloMosaic.ValueIdx

variable {M N : Nat} {α : Type}

/-- A matrix with its second axis dropped: the index over row `r` at `k` is (r, k). -/
theorem lift_row (h : (⟨2, ![M, N]⟩ : Shape).Reduces [1] ⟨1, ![M]⟩) (r : Fin M) (k : Fin N) : h.lift (ix1 r) k = ix2 r k := by
  funext a; apply Fin.ext
  match a with
  | 0 => rfl
  | 1 => rfl

/-- A matrix with its first axis dropped: the index over column `k` at `r` is (r, k). -/
theorem lift_col (h : (⟨2, ![M, N]⟩ : Shape).Reduces [0] ⟨1, ![N]⟩) (k : Fin N) (r : Fin M) : h.lift (ix1 k) r = ix2 r k := by
  funext a; apply Fin.ext
  match a with
  | 0 => rfl
  | 1 => rfl

/-- A sum along the rows, from zero. -/
theorem row_sum {u : Shape} (h' : (⟨2, ![M, N]⟩ : Shape).ReducesTo [1] ⟨1, ![M]⟩) (hu : 0 < u.numel)
    (x : FVec Ideal ⟨2, ![M, N]⟩ .f32) (r : Fin M) :
    Host.reduceAdd x (constant u .f32 0x00000000#32) h' hu (ix1 r) = ∑ k : Fin N, x (ix2 r k) := by
  have h : (⟨2, ![M, N]⟩ : Shape).Reduces [1] ⟨1, ![M]⟩ := ⟨h'.1, Nat.one_pos, h'.2⟩
  rw [hostReduceAdd_apply, Ideal.hostReduceAdd_single h' h, constant_apply, Ideal.ofBits_zero_f32, zero_add]
  exact Finset.sum_congr rfl fun k _ => congrArg x (lift_row h r k)

/-- A sum along the columns, from zero. -/
theorem col_sum {u : Shape} (h' : (⟨2, ![M, N]⟩ : Shape).ReducesTo [0] ⟨1, ![N]⟩) (hu : 0 < u.numel)
    (x : FVec Ideal ⟨2, ![M, N]⟩ .f32) (k : Fin N) :
    Host.reduceAdd x (constant u .f32 0x00000000#32) h' hu (ix1 k) = ∑ r : Fin M, x (ix2 r k) := by
  have h : (⟨2, ![M, N]⟩ : Shape).Reduces [0] ⟨1, ![N]⟩ := ⟨h'.1, Nat.one_pos, h'.2⟩
  rw [hostReduceAdd_apply, Ideal.hostReduceAdd_single h' h, constant_apply, Ideal.ofBits_zero_f32, zero_add]
  exact Finset.sum_congr rfl fun r _ => congrArg x (lift_col h k r)

/-- A column repeated along the rows. -/
theorem bcast_col (h : (⟨2, ![M, 1]⟩ : Shape).BroadcastsInDim ⟨2, ![M, N]⟩ ![0, 1]) (x : (⟨2, ![M, 1]⟩ : Shape).Idx → α)
    (r : Fin M) (k : Fin N) : broadcastInDim ⟨2, ![M, N]⟩ ![0, 1] h x (ix2 r k) = x (ix2 r 0) :=
  broadcastInDim_apply _ h x _ _ fun a => by
    match a with
    | 0 => show r.val = if M = 1 then 0 else r.val; have := r.isLt; split_ifs <;> omega
    | 1 => rfl

/-- A row repeated along the columns. -/
theorem bcast_row (h : (⟨2, ![1, N]⟩ : Shape).BroadcastsInDim ⟨2, ![M, N]⟩ ![0, 1]) (x : (⟨2, ![1, N]⟩ : Shape).Idx → α)
    (r : Fin M) (k : Fin N) : broadcastInDim ⟨2, ![M, N]⟩ ![0, 1] h x (ix2 r k) = x (ix2 0 k) :=
  broadcastInDim_apply _ h x _ _ fun a => by
    match a with
    | 0 => rfl
    | 1 => show k.val = if N = 1 then 0 else k.val; have := k.isLt; split_ifs <;> omega

/-- A vector as a column. -/
theorem as_col (h : (⟨1, ![M]⟩ : Shape).BroadcastsInDim ⟨2, ![M, 1]⟩ ![0]) (x : (⟨1, ![M]⟩ : Shape).Idx → α)
    (r : Fin M) (z : Fin 1) : broadcastInDim ⟨2, ![M, 1]⟩ ![0] h x (ix2 r z) = x (ix1 r) :=
  broadcastInDim_apply _ h x _ _ fun a => by
    match a with
    | 0 => show r.val = if M = 1 then 0 else r.val; have := r.isLt; split_ifs <;> omega

/-- A vector as a row. -/
theorem as_row (h : (⟨1, ![N]⟩ : Shape).BroadcastsInDim ⟨2, ![1, N]⟩ ![1]) (x : (⟨1, ![N]⟩ : Shape).Idx → α)
    (z : Fin 1) (k : Fin N) : broadcastInDim ⟨2, ![1, N]⟩ ![1] h x (ix2 z k) = x (ix1 k) :=
  broadcastInDim_apply _ h x _ _ fun a => by
    match a with
    | 0 => show k.val = if N = 1 then 0 else k.val; have := k.isLt; split_ifs <;> omega

/-- The kernel's repetition of a column along the rows. -/
theorem spread_col (h : (⟨2, ![M, 1]⟩ : Shape).Broadcasts ⟨2, ![M, N]⟩) (x : (⟨2, ![M, 1]⟩ : Shape).Idx → α)
    (r : Fin M) (k : Fin N) : broadcastTo ⟨2, ![M, N]⟩ x h (ix2 r k) = x (ix2 r 0) :=
  broadcastTo_apply x h _ _ fun a => by
    match a with
    | 0 => show r.val = if M = 1 then 0 else r.val; have := r.isLt; split_ifs <;> omega
    | 1 => rfl

/-- The kernel's repetition of a row along the columns. -/
theorem spread_row (h : (⟨2, ![1, N]⟩ : Shape).Broadcasts ⟨2, ![M, N]⟩) (x : (⟨2, ![1, N]⟩ : Shape).Idx → α)
    (r : Fin M) (k : Fin N) : broadcastTo ⟨2, ![M, N]⟩ x h (ix2 r k) = x (ix2 0 k) :=
  broadcastTo_apply x h _ _ fun a => by
    match a with
    | 0 => rfl
    | 1 => show k.val = if N = 1 then 0 else k.val; have := k.isLt; split_ifs <;> omega

/-- A matrix transposed. -/
theorem turn (h : (⟨2, ![M, N]⟩ : Shape).Transposes [1, 0] ⟨2, ![N, M]⟩) (x : (⟨2, ![M, N]⟩ : Shape).Idx → α)
    (k : Fin N) (r : Fin M) : transpose ⟨2, ![N, M]⟩ [1, 0] x h (ix2 k r) = x (ix2 r k) :=
  transpose_apply _ x h _ _ fun b => by
    match b with
    | 0 => rfl
    | 1 => rfl

/-- Columns of a matrix from `o` on. -/
theorem slice_cols {L : Nat} (o : Nat) (h : (⟨2, ![M, N]⟩ : Shape).Slices ![0, o] ⟨2, ![M, L]⟩) (x : (⟨2, ![M, N]⟩ : Shape).Idx → α)
    (r : Fin M) (k : Fin L) (ho : o + k.val < N) :
    extractStridedSlice ⟨2, ![M, L]⟩ ![0, o] x h (ix2 r k) = x (ix2 r ⟨o + k.val, ho⟩) :=
  extractStridedSlice_apply _ x h _ _ fun a => by
    match a with
    | 0 => show r.val = 0 + r.val; omega
    | 1 => rfl

/-- A vector's numbers laid out as a column. -/
theorem cast_col (h : (⟨1, ![M]⟩ : Shape).ShapeCasts ⟨2, ![M, 1]⟩) (x : (⟨1, ![M]⟩ : Shape).Idx → α) (r : Fin M) :
    shapeCast ⟨2, ![M, 1]⟩ x h (ix2 r 0) = x (ix1 r) :=
  shapeCast_apply x h _ _ (by rw [Shape.rowMajor_val_two, Shape.rowMajor_val_one]; show r.val = r.val * 1 + 0; omega)

/-- A vector's numbers laid out as a row. -/
theorem cast_row (h : (⟨1, ![N]⟩ : Shape).ShapeCasts ⟨2, ![1, N]⟩) (x : (⟨1, ![N]⟩ : Shape).Idx → α) (k : Fin N) :
    shapeCast ⟨2, ![1, N]⟩ x h (ix2 0 k) = x (ix1 k) :=
  shapeCast_apply x h _ _ (by rw [Shape.rowMajor_val_two, Shape.rowMajor_val_one]; show k.val = 0 * N + k.val; omega)

/-- A block of one matrix, the matrix. -/
theorem cast_drop (h : (⟨3, ![1, M, N]⟩ : Shape).ShapeCasts ⟨2, ![M, N]⟩) (x : (⟨3, ![1, M, N]⟩ : Shape).Idx → α) (r : Fin M) (k : Fin N) :
    shapeCast ⟨2, ![M, N]⟩ x h (ix2 r k) = x (ix3 0 r k) :=
  shapeCast_apply x h _ _ (by
    rw [Shape.rowMajor_val_two, Shape.rowMajor_val_three]; show (0 * M + r.val) * N + k.val = r.val * N + k.val; rw [Nat.zero_mul, Nat.zero_add])

/-- A matrix, the block of one matrix. -/
theorem cast_add (h : (⟨2, ![M, N]⟩ : Shape).ShapeCasts ⟨3, ![1, M, N]⟩) (x : (⟨2, ![M, N]⟩ : Shape).Idx → α) (z : Fin 1) (r : Fin M) (k : Fin N) :
    shapeCast ⟨3, ![1, M, N]⟩ x h (ix3 z r k) = x (ix2 r k) :=
  shapeCast_apply x h _ _ (by
    rw [Shape.rowMajor_val_two, Shape.rowMajor_val_three]; show r.val * N + k.val = (z.val * M + r.val) * N + k.val
    rw [show z.val = 0 by omega, Nat.zero_mul, Nat.zero_add])

/-- Rows stacked in blocks: row `r` of block `b` is row `b · M + r`. -/
theorem cast_blocks {B T : Nat} (h : (⟨2, ![T, N]⟩ : Shape).ShapeCasts ⟨3, ![B, M, N]⟩) (x : (⟨2, ![T, N]⟩ : Shape).Idx → α)
    (b : Fin B) (r : Fin M) (k : Fin N) (q : Fin T) (hq : q.val = b.val * M + r.val) :
    shapeCast ⟨3, ![B, M, N]⟩ x h (ix3 b r k) = x (ix2 q k) :=
  shapeCast_apply x h _ _ (by
    rw [Shape.rowMajor_val_two, Shape.rowMajor_val_three]; show q.val * N + k.val = (b.val * M + r.val) * N + k.val; rw [hq])

/-- The host's square root at an index. -/
theorem host_sqrt {s : Shape} (x : FVec Ideal s .f32) (i : s.Idx) : Host.sqrt x i = Ideal.sqrt (x i) := rfl

/-- The host's one or zero by the equality of two words. -/
theorem host_eq_word {s : Shape} (a b : IVec s 32) (i : s.Idx) (u v : BitVec 32) (ha : a i = u) (hb : b i = v) :
    uitofp (F := Ideal) .f32 (cmpi .eq a b) i = if u = v then (1 : EReal) else 0 := by
  subst ha hb
  show (((BitVec.ofBool (a i == b i)).toNat : ℝ) : EReal) = _
  by_cases h : a i = b i
  · rw [if_pos h, h]; simp
  · rw [if_neg h, beq_eq_false_iff_ne.2 h]; simp

/-- The kernel's. -/
theorem core_eq_word {s : Shape} (h : 1 < 32) (a b : IVec s 32) (i : s.Idx) (u v : BitVec 32) (ha : a i = u) (hb : b i = v) :
    sitofp (F := Ideal) .f32 (extui 32 (cmpi .eq a b) h) i = if u = v then (1 : EReal) else 0 := by
  subst ha hb
  show ((((BitVec.ofBool (a i == b i)).setWidth 32).toInt : ℝ) : EReal) = _
  by_cases e : a i = b i
  · rw [if_pos e, e]; simp
  · rw [if_neg e, beq_eq_false_iff_ne.2 e]; simp

end Cert.Vq.Reads

end
-- ==== Proof.Numbers.lean ====
/- Facts about extended reals: the programs' constants as numbers, a row divided by its length is real at every entry,
   and a scaled inner product of real rows. -/
module

public import Idealize.ShloMosaic.Lib.IdealHost

@[expose] public section

noncomputable section

namespace Cert.Vq.Numbers

open Idealize.ShloMosaic

/-! ## Constants -/

/-- The small constant that a divisor is at least. -/
abbrev tiny : EReal := Ideal.ofBits .f32 0x2B8CBCCC#32

theorem tiny_pos : ∃ e : ℝ, 0 < e ∧ tiny = (e : EReal) := by
  refine ⟨9223372 / 2 ^ 63, by norm_num, ?_⟩
  simp [tiny, Ideal.ofBits, Ideal.ieee, -EReal.coe_mul]; norm_num
theorem two : Ideal.ofBits .f32 0x40000000#32 = ((2 : ℝ) : EReal) := by
  simp [Ideal.ofBits, Ideal.ieee, -EReal.coe_mul]; norm_num
theorem neg_two : Ideal.ofBits .f32 0xC0000000#32 = ((-2 : ℝ) : EReal) := by
  simp [Ideal.ofBits, Ideal.ieee, -EReal.coe_mul]; norm_num
theorem tokens : Ideal.ofBits .f32 0x46800000#32 = ((16384 : ℝ) : EReal) := by
  simp [Ideal.ofBits, Ideal.ieee, -EReal.coe_mul]; norm_num
theorem per_token : Ideal.ofBits .f32 0x38800000#32 = ((1 / 16384 : ℝ) : EReal) := by
  simp [Ideal.ofBits, Ideal.ieee, -EReal.coe_mul]; norm_num

theorem infinite : Ideal.ofBits .f32 0x7F800000#32 = ⊤ := by simp [Ideal.ofBits, Ideal.ieee]

/-- A division by the number of tokens is a product with its inverse. -/
theorem div_tokens (x : EReal) : Ideal.div x (Ideal.ofBits .f32 0x46800000#32) = x * Ideal.ofBits .f32 0x38800000#32 := by
  rw [tokens, per_token, Ideal.div_coe (by norm_num)]

/-! ## Rows divided by their lengths -/

/-- A row's sum of squares. -/
def sumSq {N : Nat} (v : Fin N → EReal) : EReal := ∑ k, v k * v k
/-- The row's divisor: its length, or the small constant where that is greater. -/
def den {N : Nat} (v : Fin N → EReal) : EReal := max (Ideal.sqrt (sumSq v)) tiny
/-- The row divided by its divisor. -/
def unit {N : Nat} (v : Fin N → EReal) (k : Fin N) : EReal := Ideal.div (v k) (den v)

theorem sq_nonneg' (x : EReal) : 0 ≤ x * x := by
  rcases le_total 0 x with h | h
  · exact EReal.mul_nonneg h h
  · have := EReal.mul_nonneg (EReal.neg_nonneg.2 h) (EReal.neg_nonneg.2 h)
    rwa [neg_mul_neg] at this

/-- Every entry of a divided row is real: where the length is infinite the quotient is zero, and otherwise the row and
    its positive divisor are real. -/
theorem unit_real {N : Nat} (v : Fin N → EReal) (k : Fin N) : ∃ r : ℝ, unit v k = (r : EReal) := by
  obtain ⟨e, he, hte⟩ := tiny_pos
  have h0 : 0 ≤ sumSq v := Finset.sum_nonneg fun i _ => sq_nonneg' (v i)
  unfold unit den
  rw [hte]
  induction hs : sumSq v using EReal.rec with
  | bot => rw [hs] at h0; exact absurd h0 (by simp)
  | top =>
    refine ⟨0, ?_⟩
    rw [Ideal.sqrt_top, max_eq_left le_top]
    simp [Ideal.div]
  | coe s =>
    have hs0 : 0 ≤ s := by rw [hs] at h0; exact_mod_cast h0
    have hle : v k * v k ≤ (s : EReal) := hs ▸ Finset.single_le_sum (f := fun i => v i * v i) (fun i _ => sq_nonneg' (v i)) (Finset.mem_univ k)
    rw [Ideal.sqrt_coe, if_neg (not_lt.2 hs0), show max ((Real.sqrt s : ℝ) : EReal) (e : EReal) = ((max (Real.sqrt s) e : ℝ) : EReal) from
      (EReal.coe_strictMono.monotone.map_max).symm]
    have hne : max (Real.sqrt s) e ≠ 0 := ne_of_gt (lt_of_lt_of_le he (le_max_right _ _))
    rw [Ideal.div_coe hne]
    induction hv : v k using EReal.rec with
    | bot => rw [hv] at hle; simp at hle
    | top => rw [hv] at hle; simp at hle
    | coe x => exact ⟨x * (1 / max (Real.sqrt s) e), by rw [EReal.coe_mul]⟩

/-! ## Inner products of real rows -/

theorem coe_sum {N : Nat} (f : Fin N → ℝ) : ∑ k, ((f k : ℝ) : EReal) = ((∑ k, f k : ℝ) : EReal) :=
  (map_sum (⟨⟨(fun x : ℝ => (x : EReal)), rfl⟩, EReal.coe_add⟩ : ℝ →+ EReal) f Finset.univ).symm

/-- An inner product with a row scaled by −2 is the opposite of twice the inner product. -/
theorem inner_scaled {N : Nat} (a b : Fin N → EReal) (ha : ∀ k, ∃ r : ℝ, a k = r) (hb : ∀ k, ∃ r : ℝ, b k = r) :
    ∑ k, a k * (((-2 : ℝ) : EReal) * b k) = -(((2 : ℝ) : EReal) * ∑ k, a k * b k) := by
  choose f hf using ha
  choose g hg using hb
  simp only [hf, hg, ← EReal.coe_mul]
  rw [coe_sum, coe_sum, ← EReal.coe_mul, ← EReal.coe_neg, Finset.mul_sum, ← Finset.sum_neg_distrib]
  exact congrArg _ (Finset.sum_congr rfl fun k _ => by ring)

/-! ## A sum over 64 in a tree -/

/-- Eight sums of eight, folded in halves, are the whole sum. -/
theorem tree64 (g : Nat → EReal) (s : Nat → EReal)
    (hs : ∀ i, s i = g (0 + i) + g (8 + i) + g (16 + i) + g (24 + i) + g (32 + i) + g (40 + i) + g (48 + i) + g (56 + i)) :
    (s 0 + s 4 + (s 2 + s 6)) + (s 1 + s 5 + (s 3 + s 7)) = ∑ k : Fin 64, g k.val := by
  rw [Fin.sum_univ_eq_sum_range]
  simp only [Finset.sum_range_succ, Finset.sum_range_zero, zero_add, hs, Nat.reduceAdd, Nat.zero_add, Nat.add_zero]
  abel

end Cert.Vq.Numbers

end
-- ==== Proof.Codes.lean ====
/- The kernel's tables at the exact values: the codes normalized and scaled by −2, transposed, and their squared lengths.
   A row's sum is taken in a tree of slices, which is the whole sum. -/
module

public import proofs.«01_k».proof.Proof.Gen.KernelIdeal.Skeleton
public import proofs.«01_k».proof.Proof.Reads
public import proofs.«01_k».proof.Proof.Numbers

@[expose] public section

noncomputable section

namespace Cert.Vq.Codes

open Cert.KernelIdeal Cert.KernelIdeal.Gen Idealize.ShloMosaic Idealize.ShloMosaic.TcCoe Idealize.ShloMosaic.ValueIdx
open Cert.Vq.Reads Cert.Vq.Numbers

/-- The eight slices of eight columns, added in order. -/
def eighths (v : FVec Ideal S1024x64 .f32) : FVec Ideal S1024x8 .f32 :=
  addf (addf (addf (addf (addf (addf (addf
    (extractStridedSlice S1024x8 ![0, 0] v slices_S1024x64_o0_0_S1024x8)
    (extractStridedSlice S1024x8 ![0, 8] v slices_S1024x64_o0_8_S1024x8))
    (extractStridedSlice S1024x8 ![0, 16] v slices_S1024x64_o0_16_S1024x8))
    (extractStridedSlice S1024x8 ![0, 24] v slices_S1024x64_o0_24_S1024x8))
    (extractStridedSlice S1024x8 ![0, 32] v slices_S1024x64_o0_32_S1024x8))
    (extractStridedSlice S1024x8 ![0, 40] v slices_S1024x64_o0_40_S1024x8))
    (extractStridedSlice S1024x8 ![0, 48] v slices_S1024x64_o0_48_S1024x8))
    (extractStridedSlice S1024x8 ![0, 56] v slices_S1024x64_o0_56_S1024x8)
/-- Its halves added. -/
def fours (v : FVec Ideal S1024x64 .f32) : FVec Ideal S1024x4 .f32 :=
  addf (extractStridedSlice S1024x4 ![0, 0] (eighths v) slices_S1024x8_o0_0_S1024x4)
    (extractStridedSlice S1024x4 ![0, 4] (eighths v) slices_S1024x8_o0_4_S1024x4)
/-- Halves of four columns added. -/
def twos (u : FVec Ideal S1024x4 .f32) : FVec Ideal S1024x2 .f32 :=
  addf (extractStridedSlice S1024x2 ![0, 0] u slices_S1024x4_o0_0_S1024x2)
    (extractStridedSlice S1024x2 ![0, 2] u slices_S1024x4_o0_2_S1024x2)
/-- Four columns added to one. -/
def ones (u : FVec Ideal S1024x4 .f32) : FVec Ideal S1024x1 .f32 :=
  addf (extractStridedSlice S1024x1 ![0, 0] (twos u) slices_S1024x2_o0_0_S1024x1)
    (extractStridedSlice S1024x1 ![0, 1] (twos u) slices_S1024x2_o0_1_S1024x1)

/-- The tree of slices is the sum along the row. -/
theorem tree_sum (v : FVec Ideal S1024x64 .f32) (j : Fin 1024) : ones (fours v) (ix2 j 0) = ∑ k : Fin 64, v (ix2 j k) := by
  let g : Nat → EReal := fun i => if h : i < 64 then v (ix2 j ⟨i, h⟩) else 0
  have hv : ∀ i (h : i < 64), v (ix2 j ⟨i, h⟩) = g i := fun i h => by dsimp only [g]; rw [dif_pos h]
  have h8 : ∀ i (h : i < 8), eighths v (ix2 j ⟨i, h⟩)
      = g (0 + i) + g (8 + i) + g (16 + i) + g (24 + i) + g (32 + i) + g (40 + i) + g (48 + i) + g (56 + i) := fun i h => by
    unfold eighths
    simp only [addf_apply]
    rw [slice_cols 0 _ v j ⟨i, h⟩ (by dsimp only; omega), slice_cols 8 _ v j ⟨i, h⟩ (by dsimp only; omega),
      slice_cols 16 _ v j ⟨i, h⟩ (by dsimp only; omega), slice_cols 24 _ v j ⟨i, h⟩ (by dsimp only; omega),
      slice_cols 32 _ v j ⟨i, h⟩ (by dsimp only; omega), slice_cols 40 _ v j ⟨i, h⟩ (by dsimp only; omega),
      slice_cols 48 _ v j ⟨i, h⟩ (by dsimp only; omega), slice_cols 56 _ v j ⟨i, h⟩ (by dsimp only; omega)]
    simp only [hv]
  have h4 : ∀ i (h : i < 4), fours v (ix2 j ⟨i, h⟩) = eighths v (ix2 j ⟨i, by omega⟩) + eighths v (ix2 j ⟨i + 4, by omega⟩) := fun i h => by
    unfold fours
    rw [addf_apply, slice_cols 0 _ _ j ⟨i, h⟩ (by dsimp only; omega), slice_cols 4 _ _ j ⟨i, h⟩ (by dsimp only; omega)]
    simp only [Nat.zero_add, Nat.add_comm 4 i]
  have h2 : ∀ i (h : i < 2), twos (fours v) (ix2 j ⟨i, h⟩) = fours v (ix2 j ⟨i, by omega⟩) + fours v (ix2 j ⟨i + 2, by omega⟩) := fun i h => by
    unfold twos
    rw [addf_apply, slice_cols 0 _ _ j ⟨i, h⟩ (by dsimp only; omega), slice_cols 2 _ _ j ⟨i, h⟩ (by dsimp only; omega)]
    simp only [Nat.zero_add, Nat.add_comm 2 i]
  have h1 : ones (fours v) (ix2 j 0) = twos (fours v) (ix2 j ⟨0, by omega⟩) + twos (fours v) (ix2 j ⟨1, by omega⟩) := by
    unfold ones
    rw [addf_apply, slice_cols 0 _ _ j 0 (by norm_num), slice_cols 1 _ _ j 0 (by norm_num)]
    rfl
  rw [h1, h2, h2, h4, h4, h4, h4]
  simp only [h8, Nat.reduceAdd]
  exact (tree64 g _ fun _ => rfl).trans (Finset.sum_congr rfl fun k _ => (hv k.val k.isLt).symm)

/-- The kernel's normalized codes, by the named tree. -/
theorem pay8_eq (w : Vec Ideal S1024x64 .f32) : k0_pay8 w = divf w (broadcastTo S1024x64
    (maximumf (sqrt (ones (fours (mulf w w)))) (broadcast S1024x1 (Scalar.ofBits .f32 0x2B8CBCCC#32))) broadcasts_S1024x1_S1024x64) := rfl

variable (w : Vec Ideal S1024x64 .f32)

theorem pay8_apply (j : Fin 1024) (k : Fin 64) : k0_pay8 w (ix2 j k) = unit (fun k => w (ix2 j k)) k := by
  rw [pay8_eq, divf_apply, spread_col, maximumf_apply]
  show Ideal.div _ (max (Ideal.sqrt (ones (fours (mulf w w)) (ix2 j 0))) _) = _
  rw [tree_sum]
  rfl

/-- The scaled codes, transposed. -/
theorem pay9_apply (k : Fin 64) (j : Fin 1024) :
    k0_pay9 w (ix2 k j) = ((-2 : ℝ) : EReal) * unit (fun k => w (ix2 j k)) k := by
  have e : k0_pay9 w = shapeCast S64x1024 (mulf (broadcast S64x1024 (Scalar.ofBits .f32 0xC0000000#32))
    (transpose S64x1024 [1, 0] (k0_pay8 w) transposes_S1024x64_p1_0_S64x1024)) shapeCasts_S64x1024_S64x1024 := rfl
  rw [e, shapeCast_self, mulf_apply, turn, pay8_apply, ← neg_two]
  rfl

/-- The codes' squared lengths, in a row. -/
theorem lens_apply (j : Fin 1024) : k0_pay12 (k0_pay10 w) (ix2 0 j) = sumSq (unit (fun k => w (ix2 j k))) := by
  have e : k0_pay12 (k0_pay10 w) = shapeCast S1x1024 (transpose S1x1024 [1, 0] (ones (fours (mulf (k0_pay8 w) (k0_pay8 w))))
    transposes_S1024x1_p1_0_S1x1024) shapeCasts_S1x1024_S1x1024 := rfl
  rw [e, shapeCast_self, turn, tree_sum]
  exact Finset.sum_congr rfl fun k _ => by rw [mulf_apply, pay8_apply]

end Cert.Vq.Codes

end
-- ==== Proof.Least.lean ====
/- The number of a least entry of a row, read twice: the kernel's reduction over a row's lanes and the reference's fold
   over the row's pairs of a value and a number both give the first number at which the row is least. -/
module

public import proofs.«01_k».proof.Proof.RefRun
public import Idealize.ShloMosaic.Lib.ValueIdx
public import Idealize.ShloMosaic.Lib.IdealHost

@[expose] public section

noncomputable section

namespace Cert.Vq.Least

open Idealize.ShloMosaic Idealize.ShloMosaic.TcCoe Idealize.ShloMosaic.ValueIdx

/-! ## First least positions -/

/-- The row `f` is least at `n`, and at no number before `n`. -/
def First {N : Nat} (f : Fin N → EReal) (n : Fin N) : Prop :=
  (∀ k, f n ≤ f k) ∧ ∀ k, f k = f n → n ≤ k

/-- A row with an entry has a first least position. -/
theorem first_exists {N : Nat} (hN : 0 < N) (f : Fin N → EReal) : ∃ n, First f n := by
  haveI : Nonempty (Fin N) := ⟨⟨0, hN⟩⟩
  obtain ⟨n0, h0⟩ := Finite.exists_min f
  have hne : (Finset.univ.filter fun k => f k = f n0).Nonempty := ⟨n0, by simp⟩
  have hm := (Finset.mem_filter.1 (Finset.min'_mem _ hne)).2
  refine ⟨Finset.min' _ hne, fun k => hm.le.trans (h0 k), fun k hk => ?_⟩
  refine Finset.min'_le _ k ?_
  rw [Finset.mem_filter]
  exact ⟨Finset.mem_univ _, hk.trans hm⟩

/-! ## The kernel's reduction -/

/-- The reduction along one axis gives the first least position of each row. -/
theorem reduceIndex_first {s t : Shape} {a : Fin s.rank} (h : s.Reduces [a] t) (x : s.Idx → EReal) (j : t.Idx)
    (n : Fin (s.size a)) (hn : First (fun k => x (h.lift j k)) n) :
    Ideal.reduceIndex .argMin a h x j = BitVec.ofNat 32 n.val := by
  have coord : ∀ k : Fin (s.size a), ((h.lift j k) a).val = k.val := fun k => by
    rw [h.lift_val]; simp [Shape.Reduces.liftVal]
  unfold Ideal.reduceIndex
  dsimp only
  rw [show ∀ S : Finset Nat, S.min = ((n.val : Nat) : WithTop Nat) → S.min.getD 0 = n.val from fun S hS => by rw [hS]; rfl]
  apply le_antisymm
  · refine Finset.min_le ?_
    rw [Finset.mem_image]
    refine ⟨h.lift j n, ?_, coord n⟩
    rw [@Finset.mem_filter _ _ (_), Finset.mem_filter]
    refine ⟨⟨Finset.mem_univ _, h.drop_lift j n⟩, fun i hi => ?_⟩
    rw [Finset.mem_filter] at hi
    have e : h.lift j (i a) = i := by rw [← hi.2]; exact h.lift_drop i
    have := hn.1 (i a)
    dsimp only at this
    rw [e] at this
    rw [if_neg (by decide)]
    exact not_lt.2 this
  · refine Finset.le_min fun v hv => ?_
    rw [Finset.mem_image] at hv
    obtain ⟨i, hi, rfl⟩ := hv
    rw [@Finset.mem_filter _ _ (_), Finset.mem_filter] at hi
    obtain ⟨⟨-, hj⟩, hi2⟩ := hi
    have e : h.lift j (i a) = i := by rw [← hj]; exact h.lift_drop i
    have hle := hi2 (h.lift j n) (by rw [Finset.mem_filter]; exact ⟨Finset.mem_univ _, h.drop_lift j n⟩)
    rw [if_neg (by decide)] at hle
    have hni : n ≤ i a := hn.2 (i a) (le_antisymm (by dsimp only; rw [e]; exact not_lt.1 hle) (hn.1 _))
    exact WithTop.coe_le_coe.2 (Fin.le_def.1 hni)

/-! ## The reference's fold -/

/-- One pair is before another: its value is less, or the values are equal and its number is no greater. -/
def Before (p q : EReal × BitVec 32) : Prop := p.1 < q.1 ∨ (p.1 = q.1 ∧ p.2.toInt ≤ q.2.toInt)

theorem before_refl (p : EReal × BitVec 32) : Before p p := .inr ⟨rfl, le_rfl⟩

theorem before_trans {p q r : EReal × BitVec 32} (h : Before p q) (h' : Before q r) : Before p r := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

open Cert.ReferenceIdeal in
/-- The reference's step keeps one of its two pairs, one that is before both. -/
theorem step_spec (p q : EReal × BitVec 32) :
    (reducer_argmin_f32_i32 (F := Ideal) p q = p ∧ Before p q) ∨ (reducer_argmin_f32_i32 (F := Ideal) p q = q ∧ Before q p) := by
  obtain ⟨a, i⟩ := p
  obtain ⟨b, k⟩ := q
  have e : reducer_argmin_f32_i32 (F := Ideal) (a, i) (b, k)
      = (Scalar.select (BitVec.ofBool (decide (a < b)) ||| BitVec.ofBool (decide (a ≠ a))) a b,
         Scalar.select ((BitVec.ofBool (decide (a < b)) ||| BitVec.ofBool (decide (a ≠ a)))
           ||| (BitVec.ofBool (decide (a = b)) &&& BitVec.ofBool (i.slt k))) i k) := rfl
  rw [e]
  unfold Before
  rcases lt_trichotomy a b with h | h | h
  · exact .inl ⟨by simp [Scalar.select, h, h.ne], .inl h⟩
  · subst h
    by_cases hs : i.slt k
    · exact .inl ⟨by simp [Scalar.select, hs], .inr ⟨rfl, le_of_lt (by simpa [BitVec.slt] using hs)⟩⟩
    · exact .inr ⟨by simp [Scalar.select, hs], .inr ⟨rfl, by simpa [BitVec.slt] using hs⟩⟩
  · exact .inr ⟨by simp [Scalar.select, h.not_gt, h.ne'], .inl h⟩

/-- The fold's result is one of the pairs it met, and is before all of them. -/
theorem fold_spec (L : List (EReal × BitVec 32)) : ∀ p : EReal × BitVec 32,
    L.foldl (Cert.ReferenceIdeal.reducer_argmin_f32_i32 (F := Ideal)) p ∈ p :: L
      ∧ ∀ q ∈ p :: L, Before (L.foldl (Cert.ReferenceIdeal.reducer_argmin_f32_i32 (F := Ideal)) p) q := by
  induction L with
  | nil => intro p; exact ⟨by simp, fun q hq => by simp at hq; subst hq; exact before_refl _⟩
  | cons r L ih =>
    intro p
    rw [List.foldl_cons]
    obtain ⟨hm, hb⟩ := ih (Cert.ReferenceIdeal.reducer_argmin_f32_i32 (F := Ideal) p r)
    have h0 := hb _ (List.mem_cons_self ..)
    rcases step_spec p r with ⟨e, hpr⟩ | ⟨e, hrp⟩ <;> rw [e] at hm hb h0 ⊢
    · refine ⟨?_, fun q hq => ?_⟩
      · rcases List.mem_cons.1 hm with h | h
        · rw [h]; exact List.mem_cons_self ..
        · exact List.mem_cons_of_mem _ (List.mem_cons_of_mem _ h)
      · rcases List.mem_cons.1 hq with rfl | hq
        · exact h0
        · rcases List.mem_cons.1 hq with rfl | hq
          · exact before_trans h0 hpr
          · exact hb _ (List.mem_cons_of_mem _ hq)
    · refine ⟨List.mem_cons_of_mem _ hm, fun q hq => ?_⟩
      rcases List.mem_cons.1 hq with rfl | hq
      · exact before_trans h0 hrp
      · exact hb _ hq

/-- The pairs of one row: each of its entries with its number. -/
theorem mem_row {s t : Shape} {a : Fin s.rank} (h' : s.ReducesTo [a] t) (h : s.Reduces [a] t) (x : s.Idx → EReal)
    (y : s.Idx → BitVec 32) (j : t.Idx) (p : EReal × BitVec 32) :
    p ∈ Host.argReduceFiber x y h' j ↔ ∃ k, p = (x (h.lift j k), y (h.lift j k)) := by
  unfold Host.argReduceFiber
  rw [Shape.ReducesTo.drop_eq_drop h' h, List.mem_map]
  constructor
  · rintro ⟨n, hn, rfl⟩
    rw [List.mem_filter, decide_eq_true_iff] at hn
    refine ⟨s.rowMajor.symm n a, ?_⟩
    rw [← hn.2, h.lift_drop]
  · rintro ⟨k, rfl⟩
    refine ⟨s.rowMajor (h.lift j k), ?_, ?_⟩
    · rw [List.mem_filter, decide_eq_true_iff, Equiv.symm_apply_apply]
      exact ⟨List.mem_finRange _, h.drop_lift j k⟩
    · rw [Equiv.symm_apply_apply]

/-- The fold over a row, started at the greatest value and number zero, gives the row's first least position. -/
theorem foldl_first {s t : Shape} {a : Fin s.rank} (h' : s.ReducesTo [a] t) (h : s.Reduces [a] t) (x : s.Idx → EReal)
    (y : s.Idx → BitVec 32) (j : t.Idx) (hs : s.size a ≤ 1024) (hy : ∀ k, y (h.lift j k) = BitVec.ofNat 32 k.val)
    (n : Fin (s.size a)) (hn : First (fun k => x (h.lift j k)) n) :
    ((Host.argReduceFiber x y h' j).foldl (Cert.ReferenceIdeal.reducer_argmin_f32_i32 (F := Ideal)) (⊤, 0#32)).2
      = BitVec.ofNat 32 n.val := by
  have small : ∀ k : Fin (s.size a), (BitVec.ofNat 32 k.val).toInt = (k.val : Int) := fun k => by
    have := k.isLt
    have e : (BitVec.ofNat 32 k.val).toNat = k.val := by rw [BitVec.toNat_ofNat]; omega
    rw [BitVec.toInt_eq_toNat_of_lt (by rw [e]; omega), e]
  have mem := mem_row h' h x y j
  obtain ⟨hm, hb⟩ := fold_spec (Host.argReduceFiber x y h' j) (⊤, 0#32)
  generalize (Host.argReduceFiber x y h' j).foldl (Cert.ReferenceIdeal.reducer_argmin_f32_i32 (F := Ideal)) (⊤, 0#32) = q at hm hb ⊢
  have key : ∃ k, q = (x (h.lift j k), BitVec.ofNat 32 k.val) := by
    rcases List.mem_cons.1 hm with e | e
    · have hpos : 0 < s.size a := lt_of_le_of_lt (Nat.zero_le _) n.isLt
      have hz := hb _ (List.mem_cons_of_mem _ ((mem _).2 ⟨⟨0, hpos⟩, rfl⟩))
      rw [e] at hz
      refine ⟨⟨0, hpos⟩, e.trans ?_⟩
      rcases hz with hz | ⟨hz, -⟩
      · exact absurd hz not_top_lt
      · exact Prod.ext hz rfl
    · obtain ⟨k, hk⟩ := (mem q).1 e
      exact ⟨k, by rw [hk, hy]⟩
  obtain ⟨k, rfl⟩ := key
  have hb' := hb _ (List.mem_cons_of_mem _ ((mem _).2 ⟨n, rfl⟩))
  rw [hy] at hb'
  rcases hb' with e | ⟨e, hi⟩
  · exact absurd (hn.1 k) (not_le.2 e)
  · dsimp only at hi
    rw [small, small] at hi
    rw [show k = n from le_antisymm (Fin.le_def.2 (by exact_mod_cast hi)) (hn.2 k e)]

/-- The same of the reference's reduction of a row to its least value and that value's number. -/
theorem argReduce_first {s t u : Shape} {a : Fin s.rank} (h' : s.ReducesTo [a] t) (h : s.Reduces [a] t) (hu : 0 < u.numel)
    (x : s.Idx → EReal) (y : s.Idx → BitVec 32) (ix : u.Idx → EReal) (iy : u.Idx → BitVec 32) (hx : ∀ i, ix i = ⊤)
    (hy0 : ∀ i, iy i = 0#32) (j : t.Idx) (hs : s.size a ≤ 1024) (hy : ∀ k, y (h.lift j k) = BitVec.ofNat 32 k.val)
    (n : Fin (s.size a)) (hn : First (fun k => x (h.lift j k)) n) :
    (Host.argReduce (F := Ideal) (φ := .f32) (Cert.ReferenceIdeal.reducer_argmin_f32_i32 (F := Ideal)) x y ix iy h' hu j).2
      = BitVec.ofNat 32 n.val := by
  rw [Ideal.argReduce_eq_reduce2, Host.reduce2_eq_foldl_fiber, hx, hy0]
  exact foldl_first h' h x y j hs hy n hn

end Cert.Vq.Least

end
-- ==== Proof.Stages.lean ====
/- The reference's stages read at an index, at the exact values: normalized rows, squared lengths and
   distances. -/
module

public import proofs.«01_k».proof.Proof.RefRun
public import proofs.«01_k».proof.Proof.Reads
public import proofs.«01_k».proof.Proof.Numbers

@[expose] public section

noncomputable section

namespace Cert.Vq.Stages

open Cert.ReferenceIdeal Cert.ReferenceIdeal.Gen Idealize.ShloMosaic Idealize.ShloMosaic.TcCoe Idealize.ShloMosaic.ValueIdx
open Cert.Vq.Reads Cert.Vq.Numbers

variable (x : Vec Ideal S16x64x32x32 .f32) (w : Vec Ideal S1024x64 .f32)

/-- Row `r` of the tokens. -/
def tokRow (r : Fin 16384) (k : Fin 64) : EReal := Ref.flat x (ix2 r k)
/-- Row `j` of the codebook. -/
def codeRow (j : Fin 1024) (k : Fin 64) : EReal := w (ix2 j k)

theorem tok_apply (r : Fin 16384) (k : Fin 64) : Ref.tok x (ix2 r k) = unit (tokRow x r) k := by
  unfold Ref.tok
  rw [hostDivf_apply, bcast_col]
  unfold Ref.tokDen
  rw [maximumf_apply, broadcastInDim_scalar_apply, host_sqrt, as_col, row_sum, constant_apply]
  simp only [mulf_apply]
  unfold unit den sumSq tokRow
  with_reducible rfl

theorem code_apply (j : Fin 1024) (k : Fin 64) : Ref.code w (ix2 j k) = unit (codeRow w j) k := by
  unfold Ref.code
  rw [hostDivf_apply, bcast_col]
  unfold Ref.codeDen
  rw [maximumf_apply, broadcastInDim_scalar_apply, host_sqrt, as_col, row_sum, constant_apply]
  simp only [mulf_apply]
  unfold unit den sumSq codeRow
  with_reducible rfl

theorem tokSq_apply (r : Fin 16384) : Ref.tokSq x (ix1 r) = sumSq (unit (tokRow x r)) := by
  unfold Ref.tokSq
  rw [row_sum]
  exact Finset.sum_congr rfl fun k _ => by rw [mulf_apply, tok_apply]

theorem codeSq_apply (j : Fin 1024) : Ref.codeSq w (ix1 j) = sumSq (unit (codeRow w j)) := by
  unfold Ref.codeSq
  rw [row_sum]
  exact Finset.sum_congr rfl fun k _ => by rw [mulf_apply, code_apply]

theorem inner_apply (r : Fin 16384) (j : Fin 1024) :
    Ref.inner x w (ix2 r j) = ∑ k : Fin 64, unit (tokRow x r) k * unit (codeRow w j) k := by
  unfold Ref.inner
  refine (StackMember.dotGeneral_plain_apply (m := 16384) (n := 1024) none _ _ r j).trans ?_
  exact Finset.sum_congr rfl fun k _ => by rw [turn, tok_apply, code_apply]

/-- The squared distance of token `r` and code `j`. -/
def gap (r : Fin 16384) (j : Fin 1024) : EReal :=
  sumSq (unit (tokRow x r)) + sumSq (unit (codeRow w j)) - ((2 : ℝ) : EReal) * ∑ k : Fin 64, unit (tokRow x r) k * unit (codeRow w j) k

theorem dist_apply (r : Fin 16384) (j : Fin 1024) : Ref.dist x w (ix2 r j) = gap x w r j := by
  unfold Ref.dist
  rw [subf_apply, addf_apply, mulf_apply, bcast_col, as_col, bcast_row, as_row, broadcastInDim_scalar_apply, constant_apply,
    two, inner_apply, tokSq_apply, codeSq_apply]
  rfl

end Cert.Vq.Stages

end
-- ==== Proof.Nearest.lean ====
/- The reference's choice of a code and its encodings, by the first least position of a row of distances. -/
module

public import proofs.«01_k».proof.Proof.Stages
public import proofs.«01_k».proof.Proof.Least

@[expose] public section

noncomputable section

namespace Cert.Vq.Nearest

open Cert.ReferenceIdeal Cert.ReferenceIdeal.Gen Idealize.ShloMosaic Idealize.ShloMosaic.TcCoe Idealize.ShloMosaic.ValueIdx
open Cert.Vq.Stages Cert.Vq.Reads Cert.Vq.Numbers Cert.Vq.Least

/-- The reference's choice in a row of a matrix is the row's first least position. -/
theorem choice {M N : Nat} {u : Shape} (hN : N ≤ 1024) (h' : (⟨2, ![M, N]⟩ : Shape).ReducesTo [1] ⟨1, ![M]⟩) (hu : 0 < u.numel)
    (d : FVec Ideal ⟨2, ![M, N]⟩ .f32) (ix : FVec Ideal u .f32) (iy : IVec u 32) (hx : ∀ i, ix i = (⊤ : EReal)) (hy : ∀ i, iy i = 0#32)
    (r : Fin M) (n : Fin N) (hn : First (fun k : Fin N => d (ix2 r k)) n) :
    (Host.argReduce reducer_argmin_f32_i32 d (iotaInDim ⟨2, ![M, N]⟩ 32 1) ix iy h' hu (ix1 r)).2 = BitVec.ofNat 32 n.val := by
  have h : (⟨2, ![M, N]⟩ : Shape).Reduces [1] ⟨1, ![M]⟩ := ⟨h'.1, Nat.one_pos, h'.2⟩
  refine argReduce_first h' h hu d (iotaInDim ⟨2, ![M, N]⟩ 32 1) ix iy hx hy (ix1 r) hN (fun k => ?_) n ?_
  · exact congrArg (iotaInDim ⟨2, ![M, N]⟩ 32 1) (lift_row h r k)
  · have e : (fun k => d (h.lift (ix1 r) k)) = fun k : Fin N => d (ix2 r k) := funext fun k => congrArg d (lift_row h r k)
    exact e ▸ hn

variable (x : Vec Ideal S16x64x32x32 .f32) (w : Vec Ideal S1024x64 .f32)

/-- The first code nearest to token `r`. -/
def near (r : Fin 16384) : Fin 1024 := (first_exists (by norm_num) (gap x w r)).choose
theorem near_spec (r : Fin 16384) : First (gap x w r) (near x w r) := (first_exists (by norm_num) (gap x w r)).choose_spec

/-- The choices, as a function of the row. -/
theorem pick_eq (d : Vec Ideal S16384x1024 .f32) : Ref.pick d = fun j =>
    (Host.argReduce (F := Ideal) (φ := .f32) reducer_argmin_f32_i32 d (iotaInDim S16384x1024 32 1) (constant S_ .f32 0x7F800000#32)
      (constantI S_ 32 0#32) reducesTo_S16384x1024_S16384_d1 h_S_ j).2 := rfl

/-- The reference chooses the first nearest code. -/
theorem pick_apply (r : Fin 16384) : Ref.pick (Ref.dist x w) (ix1 r) = BitVec.ofNat 32 (near x w r).val := by
  have hn : First (fun k : Fin 1024 => Ref.dist x w (ix2 r k)) (near x w r) := by
    rw [show (fun k : Fin 1024 => Ref.dist x w (ix2 r k)) = gap x w r from funext fun k => dist_apply x w r k]
    exact near_spec x w r
  have h := choice (M := 16384) (N := 1024) (u := S_) le_rfl reducesTo_S16384x1024_S16384_d1 h_S_ (Ref.dist x w)
    (constant S_ .f32 0x7F800000#32) (constantI S_ 32 0#32) (fun i => by rw [constant_apply]; exact infinite) (fun i => rfl) r (near x w r) hn
  exact (congrFun (pick_eq (Ref.dist x w)) (ix1 r)).trans h

/-- A number below 1024 is told from another by its word. -/
theorem word_eq (a b : Fin 1024) : (BitVec.ofNat 32 a.val = BitVec.ofNat 32 b.val) ↔ a = b := by
  constructor
  · intro h
    have := congrArg BitVec.toNat h
    rw [BitVec.toNat_ofNat, BitVec.toNat_ofNat] at this
    exact Fin.ext (by omega)
  · rintro rfl; rfl

/-- The encodings: one at the nearest code, zero elsewhere. -/
theorem enc_apply (r : Fin 16384) (j : Fin 1024) : Ref.enc x w (ix2 r j) = if near x w r = j then 1 else 0 := by
  unfold Ref.enc Ref.oneHot
  refine (host_eq_word _ _ _ (BitVec.ofNat 32 (near x w r).val) (BitVec.ofNat 32 j.val) ?_ ?_).trans ?_
  · rw [bcast_col, as_col, pick_apply]
  · rw [bcast_row, iotaInDim_apply]
  · exact if_congr (word_eq _ _) rfl rfl

end Cert.Vq.Nearest

end
-- ==== Proof.Payloads.lean ====
/- The stored values of a grid point read at an index, at the exact values: the distances of a block, the encodings by
   the first least position, and the difference of the selected codes and the tokens. -/
module

public import proofs.«01_k».proof.Proof.Gen.KernelIdeal.Skeleton
public import proofs.«01_k».proof.Proof.Reads
public import proofs.«01_k».proof.Proof.Least
public import proofs.«01_k».proof.Proof.Nearest

@[expose] public section

noncomputable section

namespace Cert.Vq.Payloads

open Cert.KernelIdeal Cert.KernelIdeal.Gen Idealize.ShloMosaic Idealize.ShloMosaic.TcCoe Idealize.ShloMosaic.ValueIdx
open Cert.Vq.Reads Cert.Vq.Least Cert.Vq.Nearest

/-- The kernel's choice in a row of a matrix is the row's first least position. -/
theorem choice {M N : Nat} (h : (⟨2, ![M, N]⟩ : Shape).Reduces [1] ⟨1, ![M]⟩) (d : FVec Ideal ⟨2, ![M, N]⟩ .f32) (r : Fin M) (n : Fin N)
    (hn : First (fun k : Fin N => d (ix2 r k)) n) : reduceIndex .argMin 1 ⟨1, ![M]⟩ d h (ix1 r) = BitVec.ofNat 32 n.val := by
  have e : (fun k => d (h.lift (ix1 r) k)) = fun k : Fin N => d (ix2 r k) := funext fun k => congrArg d (lift_row h r k)
  exact reduceIndex_first h d (ix1 r) n (e ▸ hn)

variable (v0 v2 : FVec Ideal S1x1024x64 .f32) (v4 : FVec Ideal S1x1024x1 .f32) (v6 : FVec Ideal S1024x64 .f32)
  (v10 : FVec Ideal S64x1024 .f32) (v12 : FVec Ideal S1x1024 .f32)

/-- A block's distances. -/
def dists : FVec Ideal S1024x1024 .f32 :=
  addf (addf (broadcastTo S1024x1024 (shapeCast S1024x1 v4 shapeCasts_S1x1024x1_S1024x1 : FVec Ideal S1024x1 .f32) broadcasts_S1024x1_S1024x1024)
      (broadcastTo S1024x1024 v12 broadcasts_S1x1024_S1024x1024))
    (matmul (φ₂ := .f32) dot_S1024x64_S64x1024_S1024x1024_1_0_0_1_n_n none (shapeCast S1024x64 v2 shapeCasts_S1x1024x64_S1024x64 : FVec Ideal S1024x64 .f32) v10
      (constant S1024x1024 .f32 0x00000000#32))

theorem dists_apply (r j : Fin 1024) :
    dists v2 v4 v10 v12 (ix2 r j) = v4 (ix3 0 r 0) + v12 (ix2 0 j) + ∑ k : Fin 64, v2 (ix3 0 r k) * v10 (ix2 k j) := by
  unfold dists
  rw [addf_apply, addf_apply, spread_col, spread_row, cast_drop]
  refine congrArg (v4 (ix3 0 r 0) + v12 (ix2 0 j) + ·) ?_
  refine (Ideal.matmul_plain_apply (M := 1024) (K := 64) (N := 1024) none _ _ _ r j).trans ?_
  rw [constant_apply, Ideal.ofBits_zero_f32, zero_add]
  exact Finset.sum_congr rfl fun k _ => by rw [cast_drop]

/-- A point's encodings are of the first least position of each row of distances. -/
theorem pay13_apply (r j n : Fin 1024) (hn : First (fun k : Fin 1024 => dists v2 v4 v10 v12 (ix2 r k)) n) :
    k0_pay13 (F := Ideal) v2 v4 v10 v12 (ix2 r j) = if n = j then 1 else 0 := by
  have e : k0_pay13 (F := Ideal) v2 v4 v10 v12 = sitofp .f32 (extui 32 (cmpi .eq (iota .tc S1024x1024 32 [1] iota_S1024x1024_d1_w32)
      (broadcastTo S1024x1024 (shapeCast S1024x1 (reduceIndex .argMin 1 S1024 (dists v2 v4 v10 v12) reduces_S1024x1024_S1024)
        shapeCasts_S1024_S1024x1) broadcasts_S1024x1_S1024x1024)) natLt_1_32) := rfl
  rw [e]
  refine (core_eq_word _ _ _ _ (BitVec.ofNat 32 j.val) (BitVec.ofNat 32 n.val) ?_ ?_).trans ?_
  · exact iota_single_apply _ _ _ _ _ _
  · rw [spread_col, cast_col]
    exact choice reduces_S1024x1024_S1024 (dists v2 v4 v10 v12) r n hn
  · exact if_congr ((word_eq _ _).trans eq_comm) rfl rfl

/-- A point's selected codes less its tokens. -/
theorem pay16_apply (r : Fin 1024) (k : Fin 64) :
    k0_pay16 (F := Ideal) v0 v2 v4 v6 v10 v12 (ix2 r k) = (∑ j : Fin 1024, k0_pay13 (F := Ideal) v2 v4 v10 v12 (ix2 r j) * v6 (ix2 j k)) - v0 (ix3 0 r k) := by
  have e : k0_pay16 (F := Ideal) v0 v2 v4 v6 v10 v12 = subf (matmul (φ₂ := .f32) dot_S1024x1024_S1024x64_S1024x64_1_0_0_1_n_n none (k0_pay13 (F := Ideal) v2 v4 v10 v12) v6
      (constant S1024x64 .f32 0x00000000#32)) (shapeCast S1024x64 v0 shapeCasts_S1x1024x64_S1024x64) := rfl
  rw [e, subf_apply, cast_drop]
  refine congrArg (· - v0 (ix3 0 r k)) ?_
  refine (Ideal.matmul_plain_apply (M := 1024) (K := 1024) (N := 64) none _ _ _ r k).trans ?_
  rw [constant_apply, Ideal.ofBits_zero_f32, zero_add]

/-- A point's quantized tokens: the tokens and that difference. -/
theorem pay15_apply (r : Fin 1024) (k : Fin 64) :
    k0_pay15 (F := Ideal) v0 v2 v4 v6 v10 v12 (ix3 0 r k) = v0 (ix3 0 r k) + k0_pay16 (F := Ideal) v0 v2 v4 v6 v10 v12 (ix2 r k) := by
  have e : k0_pay15 (F := Ideal) v0 v2 v4 v6 v10 v12 = shapeCast S1x1024x64 (addf (shapeCast S1024x64 v0 shapeCasts_S1x1024x64_S1024x64 : FVec Ideal S1024x64 .f32)
      (k0_pay16 (F := Ideal) v0 v2 v4 v6 v10 v12)) shapeCasts_S1024x64_S1x1024x64 := rfl
  rw [e, cast_add, addf_apply, cast_drop]

end Cert.Vq.Payloads

end
-- ==== Proof.Block.lean ====
/- A grid point's blocks at the exact values, in terms of the arguments: point `t` holds tokens 1024·t to 1024·t + 1023,
   its encodings are those of the nearest codes, and its quantized tokens and differences are the reference's. -/
module

public import proofs.«01_k».proof.Proof.Fold
public import proofs.«01_k».proof.Proof.Entry
public import proofs.«01_k».proof.Proof.Codes
public import proofs.«01_k».proof.Proof.Payloads

@[expose] public section

noncomputable section

namespace Cert.Vq.Block

open Cert.KernelIdeal Cert.KernelIdeal.Gen Idealize.ShloMosaic Idealize.ShloMosaic.TcCoe Idealize.ShloMosaic.ValueIdx Idealize.SL.Sem
open Cert.Vq.Reads Cert.Vq.Least Cert.Vq.Numbers Cert.Vq.Nearest Cert.Vq.Stages Cert.Vq.Fold Cert.Vq.Entry Cert.Vq.Payloads

variable (m : (ℓ : Loc nD τ sig) → Buf (Elt Ideal) ℓ) (c : Dev nD)

/-- Row `r` of point `t`, as a token's number. -/
def tokenNo (t : Fin cfg0.N) (r : Fin 1024) : Fin 16384 := ⟨t.val * 1024 + r.val, by have := t.isLt; have := points; omega⟩

theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem index2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

/-- A grid point, as a block's number. -/
def blockNo (t : Fin cfg0.N) : Fin 16 := ⟨t.val, lt_of_lt_of_eq t.isLt points⟩

theorem read0 (t : Fin cfg0.N) (r : Fin 1024) (k : Fin 64) :
    (iblk m c 0 t : Vec Ideal S1x1024x64 .f32) (ix3 0 r k) = V m c main_v10 (ix3 (blockNo t) r k) := by
  have hi := index0 t
  show (((cfg0.win 0).blk t).view.read (Elt Ideal) (V m c (Pipeline.arrRef spec0 0))) (ix3 0 r k) = _
  rw [View.read_apply]
  show V m c main_v10 _ = _
  congr 1
  funext a
  apply Fin.ext
  match a with
  | ⟨0, _⟩ => show win0_0.index t 0 * 1 + 1 * 0 = t.val; rw [hi.1]; omega
  | ⟨1, _⟩ => show win0_0.index t 1 * 1024 + 1 * r.val = r.val; rw [hi.2.1]; omega
  | ⟨2, _⟩ => show win0_0.index t 2 * 64 + 1 * k.val = k.val; rw [hi.2.2]; omega

theorem read1 (t : Fin cfg0.N) (r : Fin 1024) (k : Fin 64) :
    (iblk m c 1 t : Vec Ideal S1x1024x64 .f32) (ix3 0 r k) = V m c main_v11 (ix3 (blockNo t) r k) := by
  have hi := index1 t
  show (((cfg0.win 1).blk t).view.read (Elt Ideal) (V m c (Pipeline.arrRef spec0 1))) (ix3 0 r k) = _
  rw [View.read_apply]
  show V m c main_v11 _ = _
  congr 1
  funext a
  apply Fin.ext
  match a with
  | ⟨0, _⟩ => show win0_1.index t 0 * 1 + 1 * 0 = t.val; rw [hi.1]; omega
  | ⟨1, _⟩ => show win0_1.index t 1 * 1024 + 1 * r.val = r.val; rw [hi.2.1]; omega
  | ⟨2, _⟩ => show win0_1.index t 2 * 64 + 1 * k.val = k.val; rw [hi.2.2]; omega

theorem read2 (t : Fin cfg0.N) (r : Fin 1024) :
    (iblk m c 2 t : Vec Ideal S1x1024x1 .f32) (ix3 0 r 0) = V m c main_v12 (ix3 (blockNo t) r 0) := by
  have hi := index2 t
  show (((cfg0.win 2).blk t).view.read (Elt Ideal) (V m c (Pipeline.arrRef spec0 2))) (ix3 0 r 0) = _
  rw [View.read_apply]
  show V m c main_v12 _ = _
  congr 1
  funext a
  apply Fin.ext
  match a with
  | ⟨0, _⟩ => show win0_2.index t 0 * 1 + 1 * 0 = t.val; rw [hi.1]; omega
  | ⟨1, _⟩ => show win0_2.index t 1 * 1024 + 1 * r.val = r.val; rw [hi.2.1]; omega
  | ⟨2, _⟩ => show win0_2.index t 2 * 1 + 1 * 0 = 0; rw [hi.2.2]

/-- A point's tokens. -/
theorem tokens_apply (t : Fin cfg0.N) (r : Fin 1024) (k : Fin 64) :
    (iblk m c 0 t : Vec Ideal S1x1024x64 .f32) (ix3 0 r k) = tokRow (argX m c) (tokenNo t r) k := by
  rw [read0, Entry.tokens, cast_blocks (M := 1024) (T := 16384) _ _ (blockNo t) r k (tokenNo t r) rfl]
  rfl

/-- A point's normalized tokens. -/
theorem normed_apply (t : Fin cfg0.N) (r : Fin 1024) (k : Fin 64) :
    (iblk m c 1 t : Vec Ideal S1x1024x64 .f32) (ix3 0 r k) = unit (tokRow (argX m c) (tokenNo t r)) k := by
  rw [read1, normed, cast_blocks (M := 1024) (T := 16384) _ _ (blockNo t) r k (tokenNo t r) rfl, tok_apply]

/-- Their squared lengths. -/
theorem lengths_apply (t : Fin cfg0.N) (r : Fin 1024) :
    (iblk m c 2 t : Vec Ideal S1x1024x1 .f32) (ix3 0 r 0) = sumSq (unit (tokRow (argX m c) (tokenNo t r))) := by
  rw [read2, lengths, cast_blocks (M := 1024) (T := 16384) _ _ (blockNo t) r 0 (tokenNo t r) rfl, as_col, tokSq_apply]

theorem book_eq : book m c = argW m c := V_main_arg1 m c

/-- A point's distances are the reference's. -/
theorem dists_eq (t : Fin cfg0.N) (r j : Fin 1024) :
    dists (iblk m c 1 t) (iblk m c 2 t) (codes2 m c) (lens m c) (ix2 r j) = gap (argX m c) (argW m c) (tokenNo t r) j := by
  rw [dists_apply, lengths_apply]
  unfold codes2 lens
  rw [book_eq, Codes.lens_apply]
  refine (congrArg (sumSq (unit (tokRow (argX m c) (tokenNo t r))) + sumSq (unit (codeRow (argW m c) j)) + ·)
    ((Finset.sum_congr rfl fun k _ => congrArg₂ (fun a b : EReal => a * b) (normed_apply m c t r k) (Codes.pay9_apply (argW m c) k j)).trans
      (inner_scaled (unit (tokRow (argX m c) (tokenNo t r))) (unit (codeRow (argW m c) j)) (unit_real _) (unit_real _)))).trans ?_
  exact (sub_eq_add_neg _ _).symm

/-- A point's encodings. -/
theorem enc_eq (t : Fin cfg0.N) (r j : Fin 1024) :
    encAt m c t (ix2 r j) = Ref.enc (argX m c) (argW m c) (ix2 (tokenNo t r) j) := by
  rw [enc_apply]
  unfold encAt
  refine pay13_apply _ _ _ _ r j (near (argX m c) (argW m c) (tokenNo t r)) ?_
  rw [funext fun k => dists_eq m c t r k]
  exact near_spec _ _ _

/-- The codes that the encodings select, less the tokens, by a token's number. -/
def off (x : Vec Ideal S16x64x32x32 .f32) (w : Vec Ideal S1024x64 .f32) (q : Fin 16384) (k : Fin 64) : EReal :=
  (∑ j : Fin 1024, Ref.enc x w (ix2 q j) * w (ix2 j k)) - tokRow x q k

/-- A point's differences. -/
theorem diff_eq (t : Fin cfg0.N) (r : Fin 1024) (k : Fin 64) : diffAt m c t (ix2 r k) = off (argX m c) (argW m c) (tokenNo t r) k := by
  unfold diffAt off
  rw [pay16_apply, tokens_apply, book_eq]
  exact congrArg (· - _) (Finset.sum_congr rfl fun j _ => congrArg (· * _) ((congrArg (fun w => k0_pay13 _ _ (k0_pay9 w) (k0_pay12 (k0_pay10 w)) (ix2 r j)) (book_eq m c).symm).trans (enc_eq m c t r j)))

/-- A point's quantized tokens. -/
theorem quant_eq (t : Fin cfg0.N) (r : Fin 1024) (k : Fin 64) :
    quantAt m c t (ix3 0 r k) = tokRow (argX m c) (tokenNo t r) k + off (argX m c) (argW m c) (tokenNo t r) k := by
  unfold quantAt
  rw [pay15_apply, tokens_apply]
  exact congrArg (tokRow (argX m c) (tokenNo t r) k + ·) (diff_eq m c t r k)

end Cert.Vq.Block

end
-- ==== Proof.Sums.lean ====
/- Total sums, with the extents as variables: by the coordinates, through a reshape, in blocks, and as the running sum of
   a walk over blocks; and reshapes between tokens by number and tokens by position. -/
module

public import proofs.«01_k».proof.Proof.Reads

@[expose] public section

noncomputable section

namespace Cert.Vq.Sums

open Idealize.ShloMosaic Idealize.ShloMosaic.TcCoe Idealize.ShloMosaic.ValueIdx

variable {α : Type}

/-- A vector's indices are the numbers below its extent. -/
def idx1 (N : Nat) : Fin N ≃ (⟨1, ![N]⟩ : Shape).Idx where
  toFun := ix1
  invFun i := i 0
  left_inv _ := rfl
  right_inv i := by funext a; match a with | 0 => rfl

/-- A matrix's indices are its pairs of coordinates. -/
def idx2 (M N : Nat) : Fin M × Fin N ≃ (⟨2, ![M, N]⟩ : Shape).Idx where
  toFun p := ix2 p.1 p.2
  invFun i := (i 0, i 1)
  left_inv _ := rfl
  right_inv i := by funext a; match a with | 0 => rfl | 1 => rfl

theorem sum1 {N : Nat} (f : (⟨1, ![N]⟩ : Shape).Idx → EReal) : ∑ i, f i = ∑ j : Fin N, f (ix1 j) := ((idx1 N).sum_comp f).symm

theorem sum2 {M N : Nat} (f : (⟨2, ![M, N]⟩ : Shape).Idx → EReal) : ∑ i, f i = ∑ r : Fin M, ∑ k : Fin N, f (ix2 r k) :=
  ((idx2 M N).sum_comp f).symm.trans (Fintype.sum_prod_type _)

/-- A reshape keeps the total. -/
theorem sum_cast {s t : Shape} (h : s.ShapeCasts t) (f : s.Idx → EReal) : ∑ i, shapeCast t f h i = ∑ i, f i :=
  (Shape.reshapeEquiv h).sum_comp f

/-- A sum over `T = B·N` numbers in `B` blocks of `N`. -/
theorem sum_blocks {B N T : Nat} (h : B * N = T) (f : Fin T → EReal)
    (hb : ∀ (b : Fin B) (r : Fin N), b.val * N + r.val < T) : ∑ q, f q = ∑ b : Fin B, ∑ r : Fin N, f ⟨b.val * N + r.val, hb b r⟩ := by
  subst h
  rw [← finProdFinEquiv.sum_comp, Fintype.sum_prod_type]
  refine Finset.sum_congr rfl fun b _ => Finset.sum_congr rfl fun r _ => congrArg f (Fin.ext ?_)
  show r.val + N * b.val = b.val * N + r.val
  rw [Nat.mul_comm, Nat.add_comm]

/-- A value that starts with the first term and adds one term a step is the sum of the terms so far. -/
theorem running {N : Nat} (a : ∀ n, n < N → EReal) (f : Fin N → EReal) (h0 : ∀ h, a 0 h = f ⟨0, h⟩)
    (hs : ∀ n h, a (n + 1) h = a n (Nat.lt_of_succ_lt h) + f ⟨n + 1, h⟩) (n : Nat) (h : n < N) :
    a n h = ∑ t : Fin (n + 1), f ⟨t.val, lt_of_lt_of_le t.isLt h⟩ := by
  induction n with
  | zero => rw [h0, Fin.sum_univ_one]; rfl
  | succ n ih =>
    rw [hs, ih]
    exact (Fin.sum_univ_castSucc fun t : Fin (n + 1 + 1) => f ⟨t.val, lt_of_lt_of_le t.isLt h⟩).symm

/-- The word that holds a total. -/
theorem total_word {s u v : Shape} {axes : List (Fin s.rank)} (src : FVec Ideal s .f32) (acc : BitVec 32) (h : s.Reduces axes u)
    (ht : ∀ b, u.size b = 1) (hφ : FKind.Formats .f32) (hacc : acc = FKind.add.neutral .f32 hφ) (hc : u.ShapeCasts v)
    (pos : Fin v.rank → Nat) (hp : ∀ a, pos a < v.size a) :
    extractAt pos (shapeCast v (multiReduction .add axes u src acc h hφ hacc) hc) hp = ∑ i, src i := by
  unfold extractAt shapeCast
  exact Ideal.multiReduction_add_total src acc h ht hφ hacc _

/-- The host's total, from zero. -/
theorem host_total {s t u : Shape} {axes : List (Fin s.rank)} (h' : s.ReducesTo axes t) (ht : ∀ b, t.size b = 1) (hu : 0 < u.numel)
    (x : FVec Ideal s .f32) (j : t.Idx) : Host.reduceAdd x (constant u .f32 0x00000000#32) h' hu j = ∑ i, x i := by
  rw [hostReduceAdd_apply, Ideal.hostReduceAdd_total h' ht, constant_apply, Ideal.ofBits_zero_f32, zero_add]

variable {B H W K P T : Nat}

/-- An index of four axes is its coordinates. -/
theorem eta4 (i : (⟨4, ![B, H, W, K]⟩ : Shape).Idx) : i = ix4 (i 0) (i 1) (i 2) (i 3) := by
  funext a; match a with | 0 => rfl | 1 => rfl | 2 => rfl | 3 => rfl

/-- Tokens by number, read at a position. -/
theorem cast_split (h : (⟨2, ![T, K]⟩ : Shape).ShapeCasts ⟨4, ![B, H, W, K]⟩) (x : (⟨2, ![T, K]⟩ : Shape).Idx → α)
    (b : Fin B) (y : Fin H) (z : Fin W) (k : Fin K) (q : Fin T) (hq : q.val = (b.val * H + y.val) * W + z.val) :
    shapeCast ⟨4, ![B, H, W, K]⟩ x h (ix4 b y z k) = x (ix2 q k) :=
  shapeCast_apply x h _ _ (by
    rw [Shape.rowMajor_val_two, Shape.rowMajor_val_four]
    show q.val * K + k.val = ((b.val * H + y.val) * W + z.val) * K + k.val; rw [hq])

/-- Tokens by position, read at a number. -/
theorem cast_merge (h : (⟨4, ![B, H, W, K]⟩ : Shape).ShapeCasts ⟨2, ![T, K]⟩) (x : (⟨4, ![B, H, W, K]⟩ : Shape).Idx → α)
    (b : Fin B) (y : Fin H) (z : Fin W) (k : Fin K) (q : Fin T) (hq : q.val = (b.val * H + y.val) * W + z.val) :
    shapeCast ⟨2, ![T, K]⟩ x h (ix2 q k) = x (ix4 b y z k) :=
  shapeCast_apply x h _ _ (by
    rw [Shape.rowMajor_val_two, Shape.rowMajor_val_four]
    show ((b.val * H + y.val) * W + z.val) * K + k.val = q.val * K + k.val; rw [hq])

/-- A channel's positions by number, read at a position. -/
theorem cast_image (h : (⟨3, ![B, K, P]⟩ : Shape).ShapeCasts ⟨4, ![B, K, H, W]⟩) (x : (⟨3, ![B, K, P]⟩ : Shape).Idx → α)
    (b : Fin B) (k : Fin K) (y : Fin H) (z : Fin W) (p : Fin P) (hP : P = H * W) (hp : p.val = y.val * W + z.val) :
    shapeCast ⟨4, ![B, K, H, W]⟩ x h (ix4 b k y z) = x (ix3 b k p) :=
  shapeCast_apply x h _ _ (by
    rw [Shape.rowMajor_val_three, Shape.rowMajor_val_four]
    show (b.val * K + k.val) * P + p.val = ((b.val * K + k.val) * H + y.val) * W + z.val
    rw [hp, hP]; ring)

/-- The last two of three axes exchanged. -/
theorem turn3 (h : (⟨3, ![B, P, K]⟩ : Shape).Transposes [0, 2, 1] ⟨3, ![B, K, P]⟩) (x : (⟨3, ![B, P, K]⟩ : Shape).Idx → α)
    (b : Fin B) (k : Fin K) (p : Fin P) : transpose ⟨3, ![B, K, P]⟩ [0, 2, 1] x h (ix3 b k p) = x (ix3 b p k) :=
  transpose_apply _ x h _ _ fun a => by match a with | 0 => rfl | 1 => rfl | 2 => rfl

/-- The last of four axes put second. -/
theorem channels_second (h : (⟨4, ![B, H, W, K]⟩ : Shape).Transposes [0, 3, 1, 2] ⟨4, ![B, K, H, W]⟩) (x : (⟨4, ![B, H, W, K]⟩ : Shape).Idx → α)
    (b : Fin B) (k : Fin K) (y : Fin H) (z : Fin W) : transpose ⟨4, ![B, K, H, W]⟩ [0, 3, 1, 2] x h (ix4 b k y z) = x (ix4 b y z k) :=
  transpose_apply _ x h _ _ fun a => by match a with | 0 => rfl | 1 => rfl | 2 => rfl | 3 => rfl

end Cert.Vq.Sums

end
-- ==== Proof.Quantized.lean ====
/- The kernel's encodings and quantized tokens are the reference's. -/
module

public import proofs.«01_k».proof.Proof.Arrays
public import proofs.«01_k».proof.Proof.Block
public import proofs.«01_k».proof.Proof.Sums

@[expose] public section

noncomputable section

namespace Cert.Vq.Quantized

open Cert.KernelIdeal Cert.KernelIdeal.Gen Idealize.ShloMosaic Idealize.ShloMosaic.TcCoe Idealize.ShloMosaic.ValueIdx Idealize.SL.Sem
open Cert.Vq.Stages Cert.Vq.Fold Cert.Vq.Entry Cert.Vq.Arrays Cert.Vq.Block Cert.Vq.Sums

variable (m : (ℓ : Loc nD τ sig) → Buf (Elt Ideal) ℓ) (c : Dev nD)

/-- The point of a token. -/
def pointOf (q : Fin 16384) : Fin cfg0.N := ⟨q.val / 1024, by have := q.isLt; rw [points]; omega⟩
/-- The row of a token in its point. -/
def rowOf (q : Fin 16384) : Fin 1024 := ⟨q.val % 1024, Nat.mod_lt _ (by omega)⟩

theorem tokenNo_of (q : Fin 16384) : tokenNo (pointOf q) (rowOf q) = q :=
  Fin.ext (by show q.val / 1024 * 1024 + q.val % 1024 = q.val; omega)

theorem encs_apply (q : Fin 16384) (j : Fin 1024) : encs m c (ix2 q j) = Ref.enc (argX m c) (argW m c) (ix2 q j) := by
  have e : encs m c (ix2 q j) = encAt m c (pointOf q) (ix2 (rowOf q) j) := rfl
  rw [e, enc_eq, tokenNo_of]

/-- The kernel's encodings are the reference's. -/
theorem encs_eq : encs m c = Ref.enc (argX m c) (argW m c) := by
  funext i
  have hi : i = ix2 (i 0) (i 1) := by funext a; match a with | 0 => rfl | 1 => rfl
  rw [hi]
  exact encs_apply m c _ _

/-- A token by its position. -/
def tokenAt (b : Fin 16) (y z : Fin 32) : Fin 16384 :=
  ⟨(b.val * 32 + y.val) * 32 + z.val, by have := b.isLt; have := y.isLt; have := z.isLt; omega⟩
/-- Its row in its block. -/
def placeAt (y z : Fin 32) : Fin 1024 := ⟨y.val * 32 + z.val, by have := y.isLt; have := z.isLt; omega⟩
/-- A block's point. -/
def pointAt (b : Fin 16) : Fin cfg0.N := ⟨b.val, by rw [points]; exact b.isLt⟩

theorem tokenNo_at (b : Fin 16) (y z : Fin 32) : tokenNo (pointAt b) (placeAt y z) = tokenAt b y z :=
  Fin.ext (by show b.val * 1024 + (y.val * 32 + z.val) = (b.val * 32 + y.val) * 32 + z.val; omega)

variable (x : Vec Ideal S16x64x32x32 .f32) (w : Vec Ideal S1024x64 .f32)

theorem nhwc_apply (b : Fin 16) (y z : Fin 32) (k : Fin 64) : Ref.nhwc x (ix4 b y z k) = tokRow x (tokenAt b y z) k := by
  unfold tokRow Ref.flat
  exact (cast_merge _ _ b y z k (tokenAt b y z) rfl).symm

/-- The reference's difference at a position. -/
theorem diff_apply (b : Fin 16) (y z : Fin 32) (k : Fin 64) :
    Ref.diff x w (Ref.enc x w) (ix4 b y z k) = off x w (tokenAt b y z) k := by
  unfold Ref.diff off
  rw [subf_apply, nhwc_apply, cast_split _ _ b y z k (tokenAt b y z) rfl]
  refine congrArg (· - tokRow x (tokenAt b y z) k) ?_
  exact StackMember.dotGeneral_plain_apply (m := 16384) (k := 1024) (n := 64) none _ _ _ _

/-- The reference's quantized tokens at a position. -/
theorem quant_apply (b : Fin 16) (k : Fin 64) (y z : Fin 32) :
    Ref.quant x w (Ref.enc x w) (ix4 b k y z) = tokRow x (tokenAt b y z) k + off x w (tokenAt b y z) k := by
  unfold Ref.quant
  rw [channels_second, addf_apply, nhwc_apply, diff_apply]

theorem quantOut_apply (b : Fin 16) (k : Fin 64) (y z : Fin 32) :
    quantOut m c (ix4 b k y z) = tokRow (argX m c) (tokenAt b y z) k + off (argX m c) (argW m c) (tokenAt b y z) k := by
  unfold quantOut
  rw [cast_image _ _ b k y z (placeAt y z) rfl rfl, turn3]
  have e : quants m c (ix3 b (placeAt y z) k) = quantAt m c (pointAt b) (ix3 0 (placeAt y z) k) := rfl
  rw [e, quant_eq, tokenNo_at]

/-- The kernel's quantized tokens are the reference's. -/
theorem quantOut_eq : quantOut m c = Ref.quant (argX m c) (argW m c) (Ref.enc (argX m c) (argW m c)) := by
  funext i
  rw [eta4 i]
  exact (quantOut_apply m c _ _ _ _).trans (quant_apply _ _ _ _ _ _).symm

end Cert.Vq.Quantized

end
-- ==== Proof.Totals.lean ====
/- The kernel's loss and perplexity are the reference's: the sums that it carries from point to point are the host's sums
   over every token. -/
module

public import proofs.«01_k».proof.Proof.Quantized

@[expose] public section

noncomputable section

namespace Cert.Vq.Totals

open Cert.KernelIdeal Cert.KernelIdeal.Gen Idealize.ShloMosaic Idealize.ShloMosaic.TcCoe Idealize.ShloMosaic.ValueIdx Idealize.SL.Sem
open Cert.Vq.Reads Cert.Vq.Stages Cert.Vq.Fold Cert.Vq.Entry Cert.Vq.Arrays Cert.Vq.Block Cert.Vq.Sums Cert.Vq.Quantized

variable (m : (ℓ : Loc nD τ sig) → Buf (Elt Ideal) ℓ) (c : Dev nD)
variable (x : Vec Ideal S16x64x32x32 .f32) (w : Vec Ideal S1024x64 .f32)

/-- A point's number has its tokens below their count. -/
theorem token_lt (b : Fin 16) (r : Fin 1024) : b.val * 1024 + r.val < 16384 := by have := b.isLt; have := r.isLt; omega

/-! ## The loss -/

/-- A token's squared difference. -/
def offSq (q : Fin 16384) : EReal := ∑ k : Fin 64, off x w q k * off x w q k

/-- A point's share of the loss. -/
theorem pay1_apply (v : FVec Ideal S1024x64 .f32) :
    k0_pay1 (F := Ideal) v = ∑ r : Fin 1024, ∑ k : Fin 64, v (ix2 r k) * v (ix2 r k) := by
  have e : k0_pay1 (F := Ideal) v = extractAt ![0, 0, 0] (shapeCast S1x1x1 (multiReduction .add [1, 2] S1
      (shapeCast S1x1024x64 (mulf v v) shapeCasts_S1024x64_S1x1024x64 : FVec Ideal S1x1024x64 .f32) 0x00000000#32 reduces_S1x1024x64_S1 (.inl rfl) rfl)
      shapeCasts_S1_S1x1x1) inpos_S1x1x1_p0_0_0 := rfl
  rw [e]
  refine (total_word _ _ _ (fun b => by match b with | 0 => rfl) _ _ _ _ _).trans ((sum_cast _ _).trans ?_)
  exact sum2 (M := 1024) (N := 64) (mulf v v)

theorem loss_point (t : Fin cfg0.N) :
    k0_pay1 (F := Ideal) (diffAt m c t) = ∑ r : Fin 1024, offSq (argX m c) (argW m c) (tokenNo t r) := by
  rw [pay1_apply]
  unfold offSq
  exact Finset.sum_congr rfl fun r _ => Finset.sum_congr rfl fun k _ => by rw [diff_eq]

/-- The sum that the last point holds is over every token. -/
theorem loss_total : lossAt m c 15 last.isLt = ∑ q : Fin 16384, offSq (argX m c) (argW m c) q := by
  rw [running (lossAt m c) (fun t => ∑ r : Fin 1024, offSq (argX m c) (argW m c) (tokenNo t r)) (fun h => loss_point m c ⟨0, h⟩)
    (fun n h => congrArg (fun z : EReal => lossAt m c n (Nat.lt_of_succ_lt h) + z) (loss_point m c ⟨n + 1, h⟩)) 15 last.isLt]
  exact (sum_blocks (B := 16) (N := 1024) rfl (offSq (argX m c) (argW m c)) token_lt).symm

/-- The squared differences by a token's number. -/
def sqs : FVec Ideal S16384x64 .f32 := fun i => off x w (i 0) (i 1) * off x w (i 0) (i 1)

theorem diff_sq : mulf (Ref.diff x w (Ref.enc x w)) (Ref.diff x w (Ref.enc x w))
    = (shapeCast S16x32x32x64 (sqs x w) Cert.ReferenceIdeal.Gen.shapeCasts_S16384x64_S16x32x32x64 : FVec Ideal S16x32x32x64 .f32) := by
  funext i
  rw [eta4 i]
  refine Eq.trans ?_ (cast_split _ (sqs x w) (i 0) (i 1) (i 2) (i 3) (tokenAt (i 0) (i 1) (i 2)) rfl).symm
  exact congrArg (fun z : EReal => z * z) (diff_apply x w (i 0) (i 1) (i 2) (i 3))

/-- The reference's loss. -/
theorem loss_apply (j : S_.Idx) : Ref.loss x w (Ref.enc x w) j
    = Ideal.ofBits .f32 0x3E800000#32 * Ideal.div (∑ q : Fin 16384, offSq x w q) (Ideal.ofBits .f32 0x49800000#32) := by
  unfold Ref.loss
  rw [mulf_apply, hostDivf_apply, diff_sq]
  refine congrArg (fun z => Ideal.ofBits .f32 0x3E800000#32 * Ideal.div z (Ideal.ofBits .f32 0x49800000#32)) ?_
  exact (host_total _ (fun b => b.elim0) _ _ _).trans ((sum_cast _ _).trans (sum2 (M := 16384) (N := 64) (sqs x w)))

/-- The kernel's loss is the reference's. -/
theorem lossOut_eq : lossOut m c = Ref.loss (argX m c) (argW m c) (Ref.enc (argX m c) (argW m c)) := by
  funext j
  have e : lossOut m c j = Ideal.ofBits .f32 0x3E800000#32 * Ideal.div (lossAt m c 15 last.isLt) (Ideal.ofBits .f32 0x49800000#32) := rfl
  rw [e, loss_total]
  exact (loss_apply _ _ j).symm

/-! ## The perplexity -/

/-- A point's counts. -/
theorem pay2_apply (v : FVec Ideal S1024x1024 .f32) (j : Fin 1024) : k0_pay2 (F := Ideal) v (ix2 0 j) = ∑ r : Fin 1024, v (ix2 r j) := by
  have e : k0_pay2 (F := Ideal) v = shapeCast S1x1024 (multiReduction .add [0] S1024 v 0x00000000#32 reduces_S1024x1024_S1024_2 (.inl rfl) rfl)
      shapeCasts_S1024_S1x1024 := rfl
  rw [e, cast_row]
  refine (Ideal.multiReduction_add_single _ _ _ _ _ _).trans ?_
  exact Finset.sum_congr rfl fun r _ => congrArg v (lift_col _ j r)

theorem count_point (t : Fin cfg0.N) (j : Fin 1024) :
    k0_pay2 (F := Ideal) (encAt m c t) (ix2 0 j) = ∑ r : Fin 1024, Ref.enc (argX m c) (argW m c) (ix2 (tokenNo t r) j) := by
  rw [pay2_apply]
  exact Finset.sum_congr rfl fun r _ => enc_eq m c t r j

theorem count_first (h : 0 < cfg0.N) (j : S1x1024.Idx) : cntAt m c 0 h j = k0_pay2 (F := Ideal) (encAt m c ⟨0, h⟩) j := by
  show k0_pay3 (F := Ideal) (encAt m c ⟨0, h⟩) j = _
  have e : ∀ v, k0_pay3 (F := Ideal) v = shapeCast S1x1024 (k0_pay2 v) shapeCasts_S1x1024_S1x1024 := fun _ => rfl
  rw [e, shapeCast_self]

theorem count_next (n : ℕ) (h : n + 1 < cfg0.N) (j : S1x1024.Idx) :
    cntAt m c (n + 1) h j = cntAt m c n (Nat.lt_of_succ_lt h) j + k0_pay2 (F := Ideal) (encAt m c ⟨n + 1, h⟩) j := by
  show k0_pay5 (F := Ideal) (encAt m c ⟨n + 1, h⟩) (cntAt m c n (Nat.lt_of_succ_lt h)) j = _
  have e : ∀ v u, k0_pay5 (F := Ideal) v u = shapeCast S1x1024 (addf (φ := .f32) u (k0_pay2 v)) shapeCasts_S1x1024_S1x1024 := fun _ _ => rfl
  rw [e, shapeCast_self, addf_apply]

/-- The counts that the last point holds are over every token. -/
theorem count_total (j : Fin 1024) :
    cntAt m c 15 last.isLt (ix2 0 j) = ∑ q : Fin 16384, Ref.enc (argX m c) (argW m c) (ix2 q j) := by
  rw [running (fun n h => cntAt m c n h (ix2 0 j)) (fun t => ∑ r : Fin 1024, Ref.enc (argX m c) (argW m c) (ix2 (tokenNo t r) j))
    (fun h => (count_first m c h _).trans (count_point m c ⟨0, h⟩ j))
    (fun n h => (count_next m c n h _).trans (congrArg (cntAt m c n (Nat.lt_of_succ_lt h) (ix2 0 j) + ·) (count_point m c ⟨n + 1, h⟩ j))) 15 last.isLt]
  exact (sum_blocks (B := 16) (N := 1024) rfl (fun q => Ref.enc (argX m c) (argW m c) (ix2 q j)) token_lt).symm

/-- A share's term of the entropy. -/
def term (p : EReal) : EReal := p * Ideal.log (p + Ideal.ofBits .f32 0x2EDBE6FF#32)

/-- The kernel's perplexity of given counts. -/
theorem pay7_apply (v : FVec Ideal S1x1024 .f32) :
    k0_pay7 (F := Ideal) v = Ideal.exp (-∑ j : Fin 1024, term (v (ix2 0 j) * Ideal.ofBits .f32 0x38800000#32)) := by
  have e : k0_pay7 (F := Ideal) v = Ideal.exp (Ideal.ofBits .f32 0x00000000#32 - extractAt ![0, 0, 0] (shapeCast S1x1x1 (multiReduction .add [1, 2] S1
      (shapeCast S1x1x1024 (fun i => term (v i * Ideal.ofBits .f32 0x38800000#32) : FVec Ideal S1x1024 .f32) shapeCasts_S1x1024_S1x1x1024 : FVec Ideal S1x1x1024 .f32)
      0x00000000#32 reduces_S1x1x1024_S1 (.inl rfl) rfl) shapeCasts_S1_S1x1x1) inpos_S1x1x1_p0_0_0) := rfl
  rw [e, Ideal.ofBits_zero_f32, sub_eq_add_neg, zero_add]
  refine congrArg (fun z => Ideal.exp (-z)) ((total_word _ _ _ (fun b => by match b with | 0 => rfl) _ _ _ _ _).trans
    ((sum_cast _ _).trans ((sum2 (M := 1) (N := 1024) _).trans ?_)))
  rw [Fin.sum_univ_one]

/-- A code's share of the tokens. -/
theorem share_apply (e : FVec Ideal S16384x1024 .f32) (j : Fin 1024) :
    Ref.share (F := Ideal) e (ix1 j) = (∑ q : Fin 16384, e (ix2 q j)) * Ideal.ofBits .f32 0x38800000#32 := by
  unfold Ref.share
  rw [hostDivf_apply, broadcastInDim_scalar_apply, col_sum, constant_apply]
  exact Numbers.div_tokens _

/-- The codes' terms of the entropy. -/
def terms (e : FVec Ideal S16384x1024 .f32) : FVec Ideal S1024 .f32 := fun i => term (Ref.share (F := Ideal) e i)

/-- The reference's perplexity. -/
theorem perp_apply (e : FVec Ideal S16384x1024 .f32) (i : S_.Idx) :
    Ref.perp (F := Ideal) e i = Ideal.exp (-∑ j : Fin 1024, term ((∑ q : Fin 16384, e (ix2 q j)) * Ideal.ofBits .f32 0x38800000#32)) := by
  have h : Ref.perp (F := Ideal) e i = Ideal.exp (-(Host.reduceAdd (F := Ideal) (φ := .f32) (terms e) (constant S_ .f32 0x00000000#32)
      Cert.ReferenceIdeal.Gen.reducesTo_S1024_S_d0 Cert.ReferenceIdeal.Gen.h_S_ i)) := rfl
  rw [h]
  refine congrArg (fun z => Ideal.exp (-z)) ((host_total _ (fun b => b.elim0) _ _ _).trans ((sum1 _).trans ?_))
  exact (Finset.sum_congr rfl fun j _ => congrArg term (share_apply e j))

/-- The kernel's perplexity is the reference's. -/
theorem perpOut_eq : perpOut m c = Ref.perp (Ref.enc (argX m c) (argW m c)) := by
  funext i
  have e : perpOut m c i = k0_pay7 (F := Ideal) (cntAt m c 15 last.isLt) := rfl
  rw [e, pay7_apply, perp_apply]
  exact congrArg (fun z => Ideal.exp (-z)) (Finset.sum_congr rfl fun j _ => congrArg (fun y => term (y * _)) (count_total m c j))

end Cert.Vq.Totals

end
-- ==== Proof.Equal.lean ====
/- The kernel and the reference leave the same results, from any arguments. -/
module

public import proofs.«01_k».proof.Defs
public import proofs.«01_k».proof.Proof.Gen.Pre_no_tie
public import proofs.«01_k».proof.Proof.RefRun
public import proofs.«01_k».proof.Proof.Totals

@[expose] public section

noncomputable section

namespace Cert.Vq

open Idealize.ShloMosaic Idealize.SL.Sem Cert.Vq.Entry

/-- The claim on the results: the reference's are those that the kernel leaves. -/
theorem algebraic : Cert.algebraic_KernelIdeal_ReferenceIdeal (hKernelIdeal := Cert.KernelIdeal.Gen.facts)
    (hReferenceIdeal := Cert.ReferenceIdeal.Gen.facts) (hPre_no_tie := Cert.Pre_no_tie.Gen.facts) := by
  intro m g m' g' _ hargs
  refine ⟨fun c => Ref.quant (argX m c) (argW m c) (Ref.enc (argX m c) (argW m c)),
    fun c => Ref.loss (argX m c) (argW m c) (Ref.enc (argX m c) (argW m c)),
    fun c => Ref.perp (Ref.enc (argX m c) (argW m c)), fun c => Ref.enc (argX m c) (argW m c), ?_, ?_⟩
  · refine (θ_run Cert.KernelIdeal.defs _ _).mono (fun r h c => ?_) (Arrays.run m g)
    obtain ⟨h0, h1, h2, h3, hk⟩ := h c
    exact ⟨h0.trans (Quantized.quantOut_eq m c), h1.trans (Totals.lossOut_eq m c), h2.trans (Totals.perpOut_eq m c),
      h3.trans (Quantized.encs_eq m c), hk⟩
  · refine (θ_run Cert.ReferenceIdeal.defs _ _).mono (fun r h c => ?_) (Ref.run m' g')
    obtain ⟨h0, h1, h2, h3, hk⟩ := h c
    obtain ⟨e0, e1, -, -⟩ := hargs c
    rw [e0, e1] at h0 h1 h2 h3
    exact ⟨h0, h1, h2, h3, hk⟩

end Cert.Vq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_no_tie
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_no_tie.Gen.facts,
  fun m ρ _ => Cert.Kernel.Gen.frame m ρ, fun m ρ _ => Cert.Kernel.Gen.frame m ρ, fun m ρ _ => Cert.KernelIdeal.Gen.frame m ρ,
  fun m ρ _ => Cert.Vq.Ref.frame m ρ, fun m ρ _ => Cert.Vq.Ref.frame m ρ, trivial, Cert.Vq.algebraic⟩

end Cert.Proof

end
